-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_increasing [hPre_finite_and_increasing : Cert.Pre_finite_and_increasing.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_increasing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_and_increasing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_and_increasing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_and_increasing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_and_increasing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite_and_increasing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_increasing [hPre_finite_and_increasing : Cert.Pre_finite_and_increasing.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_increasing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_and_increasing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_and_increasing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_and_increasing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_and_increasing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite_and_increasing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_and_increasing [hKernelIdeal : Cert.KernelIdeal.Facts] [hPre_finite_and_increasing : Cert.Pre_finite_and_increasing.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_increasing m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_and_increasing [hReferenceIdeal : Cert.ReferenceIdeal.Facts] [hPre_finite_and_increasing : Cert.Pre_finite_and_increasing.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_increasing m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_and_increasing [hKernelIdeal : Cert.KernelIdeal.Facts] [hReferenceIdeal : Cert.ReferenceIdeal.Facts] [hPre_finite_and_increasing : Cert.Pre_finite_and_increasing.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_increasing m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_and_increasing : Cert.Pre_finite_and_increasing.Facts),
    quiescent_Kernel (hKernel := hKernel)
    ∧ quiescent_KernelIdeal (hKernelIdeal := hKernelIdeal)
    ∧ quiescent_KernelIdeal_pre_finite_and_increasing (hKernelIdeal := hKernelIdeal) (hPre_finite_and_increasing := hPre_finite_and_increasing)
    ∧ quiescent_ReferenceIdeal (hReferenceIdeal := hReferenceIdeal)
    ∧ quiescent_ReferenceIdeal_pre_finite_and_increasing (hReferenceIdeal := hReferenceIdeal) (hPre_finite_and_increasing := hPre_finite_and_increasing)
    ∧ preserves_Kernel_KernelIdeal
    ∧ algebraic_KernelIdeal_ReferenceIdeal_pre_finite_and_increasing (hKernelIdeal := hKernelIdeal) (hReferenceIdeal := hReferenceIdeal) (hPre_finite_and_increasing := hPre_finite_and_increasing)
-- ==== Pre_finite_and_increasing.lean ====
abbrev S32768x3 : Shape := ⟨2, ![32768, 3]⟩
abbrev S32768x128 : Shape := ⟨2, ![32768, 128]⟩
abbrev S16 : Shape := ⟨1, ![16]⟩
abbrev S128x128 : Shape := ⟨2, ![128, 128]⟩
abbrev S128 : Shape := ⟨1, ![128]⟩
abbrev S256x128 : Shape := ⟨2, ![256, 128]⟩
abbrev S_ : Shape := ⟨0, ![]⟩
abbrev S1 : Shape := ⟨1, ![1]⟩
abbrev S15 : Shape := ⟨1, ![15]⟩

class Facts : Prop where
  bcast_S_S32768x128 : S_.BroadcastsInDim S32768x128 (![] : Fin 0 → Fin S32768x128.rank)
  bcast_S_S128x128 : S_.BroadcastsInDim S128x128 (![] : Fin 0 → Fin S128x128.rank)
  bcast_S_S128 : S_.BroadcastsInDim S128 (![] : Fin 0 → Fin S128.rank)
  slices_S16_S1_0 : S16.Slices ![0] S1
  bcast_S_S1 : S_.BroadcastsInDim S1 (![] : Fin 0 → Fin S1.rank)
  slices_S16_S15_1 : S16.Slices ![1] S15
  slices_S16_S15_0 : S16.Slices ![0] S15
  slices_S16_S1_15 : S16.Slices ![15] S1

variable [Facts]

def fn {F : FTy → Type} [FloatOps F] (main_arg0 : FVec F S32768x3 .f32) (main_arg1 : FVec F S32768x128 .f32) (main_arg2 : IVec S16 32) (main_arg3 : FVec F S128x128 .f32) (main_arg4 : FVec F S128 .f32) (main_arg5 : FVec F S256x128 .f32) (main_arg6 : FVec F S128 .f32) (main_arg7 : FVec F S128 .f32) (main_arg8 : FVec F S128 .f32) : IVec S32768x128 1 × IVec S128x128 1 × IVec S128 1 × IVec S1 1 × IVec S15 1 × IVec S1 1 :=
  let main_v0 : FVec F S32768x128 .f32 := Host.absf main_arg1
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_v3 : FVec F S128x128 .f32 := Host.absf main_arg3
  let main_cst_0 : FVec F S_ .f32 := constant S_ .f32 0x7F800000#32
  let main_v4 : FVec F S128x128 .f32 := broadcastInDim S128x128 ![] bcast_S_S128x128 main_cst_0
  let main_v5 : IVec S128x128 1 := cmpf .olt main_v3 main_v4
  let main_v6 : FVec F S128 .f32 := Host.absf main_arg4
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  let main_v9 : IVec S1 32 := (extractStridedSlice S1 ![0] · slices_S16_S1_0) main_arg2
  let main_c : IVec S_ 32 := constantI S_ 32 1#32
  let main_v10 : IVec S1 32 := broadcastInDim S1 ![] bcast_S_S1 main_c
  let main_v11 : IVec S1 1 := cmpi .sge main_v9 main_v10
  let main_v12 : IVec S15 32 := (extractStridedSlice S15 ![1] · slices_S16_S15_1) main_arg2
  let main_v13 : IVec S15 32 := (extractStridedSlice S15 ![0] · slices_S16_S15_0) main_arg2
  let main_v14 : IVec S15 1 := cmpi .sgt main_v12 main_v13
  let main_v15 : IVec S1 32 := (extractStridedSlice S1 ![15] · slices_S16_S1_15) main_arg2
  let main_c_2 : IVec S_ 32 := constantI S_ 32 32768#32
  let main_v16 : IVec S1 32 := broadcastInDim S1 ![] bcast_S_S1 main_c_2
  let main_v17 : IVec S1 1 := cmpi .eq main_v15 main_v16
  (main_v2, main_v5, main_v8, main_v11, main_v14, main_v17)
-- ==== Kernel.lean ====
abbrev S32768x3 : Shape := ⟨2, ![32768, 3]⟩
abbrev S32768x128 : Shape := ⟨2, ![32768, 128]⟩
abbrev S16 : Shape := ⟨1, ![16]⟩
abbrev S128x128 : Shape := ⟨2, ![128, 128]⟩
abbrev S128 : Shape := ⟨1, ![128]⟩
abbrev S256x128 : Shape := ⟨2, ![256, 128]⟩
abbrev S16x1 : Shape := ⟨2, ![16, 1]⟩
abbrev S_ : Shape := ⟨0, ![]⟩
abbrev S1 : Shape := ⟨1, ![1]⟩
abbrev S15 : Shape := ⟨1, ![15]⟩
abbrev S1x128 : Shape := ⟨2, ![1, 128]⟩
abbrev S8192x128 : Shape := ⟨2, ![8192, 128]⟩
abbrev S16x128 : Shape := ⟨2, ![16, 128]⟩
abbrev S16x8192 : Shape := ⟨2, ![16, 8192]⟩

abbrev nBuf : Space → Nat
  | .hbm => 47
  | .vmem => 18
  | .smem => 0
  | _ => 0

abbrev bufTy : (tb : Table) → Fin (tcTables nBuf tb) → BufTy
  | .hbm, ⟨0, _⟩ => ⟨S32768x3, .f32⟩
  | .hbm, ⟨1, _⟩ => ⟨S32768x128, .f32⟩
  | .hbm, ⟨2, _⟩ => ⟨S16, .i32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S16x1, .i32⟩
  | .hbm, ⟨10, _⟩ => ⟨S_, .i32⟩
  | .hbm, ⟨11, _⟩ => ⟨S1, .i32⟩
  | .hbm, ⟨12, _⟩ => ⟨S15, .i32⟩
  | .hbm, ⟨13, _⟩ => ⟨S16, .i32⟩
  | .hbm, ⟨14, _⟩ => ⟨S16x1, .i32⟩
  | .hbm, ⟨15, _⟩ => ⟨S1, .i32⟩
  | .hbm, ⟨16, _⟩ => ⟨S15, .i32⟩
  | .hbm, ⟨17, _⟩ => ⟨S15, .i32⟩
  | .hbm, ⟨18, _⟩ => ⟨S15, .i32⟩
  | .hbm, ⟨19, _⟩ => ⟨S16, .i32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S16x1, .f32⟩
  | .hbm, ⟨25, _⟩ => ⟨S128x128, .i32⟩
  | .hbm, ⟨26, _⟩ => ⟨S128x128, .i32⟩
  | .hbm, ⟨27, _⟩ => ⟨S_, .i32⟩
  | .hbm, ⟨28, _⟩ => ⟨S128x128, .i32⟩
  | .hbm, ⟨29, _⟩ => ⟨S128x128, .i32⟩
  | .hbm, ⟨30, _⟩ => ⟨S128x128, .i1⟩
  | .hbm, ⟨31, _⟩ => ⟨S128x128, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S_, .f32⟩
  | .hbm, ⟨45, _⟩ => ⟨S128x128, .f32⟩
  | .hbm, ⟨46, _⟩ => ⟨S32768x128, .f32⟩
  | .local _ .vmem, ⟨0, _⟩ => ⟨S8192x128, .f32⟩
  | .local _ .vmem, ⟨1, _⟩ => ⟨S8192x128, .f32⟩
  | .local _ .vmem, ⟨2, _⟩ => ⟨S16x1, .i32⟩
  | .local _ .vmem, ⟨3, _⟩ => ⟨S16x1, .i32⟩
  | .local _ .vmem, ⟨4, _⟩ => ⟨S16x1, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S128x128, .f32⟩
  | .local _ .vmem, ⟨13, _⟩ => ⟨S8192x128, .f32⟩
  | .local _ .vmem, ⟨14, _⟩ => ⟨S8192x128, .f32⟩
  | .local _ .vmem, ⟨15, _⟩ => ⟨S32768x128, .f32⟩
  | .local _ .vmem, ⟨16, _⟩ => ⟨S16x128, .f32⟩
  | .local _ .vmem, ⟨17, _⟩ => ⟨S16x128, .f32⟩
  | _, _ => ⟨S32768x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_cst : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_c_0 : Ref sig .tc := ⟨.hbm, 27, rfl⟩
abbrev main_call0_v16 : Ref sig .tc := ⟨.hbm, 28, rfl⟩
abbrev main_call0_v17 : Ref sig .tc := ⟨.hbm, 29, rfl⟩
abbrev main_call0_v18 : Ref sig .tc := ⟨.hbm, 30, rfl⟩
abbrev main_call0_v19 : Ref sig .tc := ⟨.hbm, 31, rfl⟩
abbrev main_call0_cst_1 : Ref sig .tc := ⟨.hbm, 32, rfl⟩
abbrev main_call0_v20 : Ref sig .tc := ⟨.hbm, 33, rfl⟩
abbrev main_call0_v21 : Ref sig .tc := ⟨.hbm, 34, rfl⟩
abbrev main_call0_v22 : Ref sig .tc := ⟨.hbm, 35, rfl⟩
abbrev main_call0_v23 : Ref sig .tc := ⟨.hbm, 36, rfl⟩
abbrev main_call0_v24 : Ref sig .tc := ⟨.hbm, 37, rfl⟩
abbrev main_call0_v25 : Ref sig .tc := ⟨.hbm, 38, rfl⟩
abbrev main_call0_v26 : Ref sig .tc := ⟨.hbm, 39, rfl⟩
abbrev main_call0_v27 : Ref sig .tc := ⟨.hbm, 40, rfl⟩
abbrev main_call0_v28 : Ref sig .tc := ⟨.hbm, 41, rfl⟩
abbrev main_call0_v29 : Ref sig .tc := ⟨.hbm, 42, rfl⟩
abbrev main_call0_v30 : Ref sig .tc := ⟨.hbm, 43, rfl⟩
abbrev main_call0_cst_2 : Ref sig .tc := ⟨.hbm, 44, rfl⟩
abbrev main_call0_v31 : Ref sig .tc := ⟨.hbm, 45, rfl⟩
abbrev main_v0 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_4 : BitVec 32 := 0#32
  let v18 : BitVec 1 := Scalar.cmpi .ne v17 c0_i32_4
  v18

def k0_off1 (i : grid0.Coords) : Fin 2 → Nat :=
  let arg1 : BitVec 32 := BitVec.ofNat 32 (i 1).val
  let c8192_i32_18 : BitVec 32 := 8192#32
  let v35 : BitVec 32 := Scalar.muli arg1 c8192_i32_18
  let v36 : Index := Scalar.indexCast v35
  let c0_19 : Index := 0#32
  ![v36.toNat, 0]
def k0_cond3 (i : grid0.Coords) : BitVec 1 :=
  let arg0 : BitVec 32 := BitVec.ofNat 32 (i 0).val
  let c1_i32 : BitVec 32 := 1#32
  let v19 : BitVec 1 := Scalar.cmpi .eq arg0 c1_i32
  let v20 : BitVec 32 := Scalar.extui v19
  let c0_i32_5 : BitVec 32 := 0#32
  let v21 : BitVec 1 := Scalar.cmpi .ne v20 c0_i32_5
  v21

def k0_off2 (i : grid0.Coords) : Fin 2 → Nat :=
  let arg1 : BitVec 32 := BitVec.ofNat 32 (i 1).val
  let c8192_i32_8 : BitVec 32 := 8192#32
  let v25 : BitVec 32 := Scalar.muli arg1 c8192_i32_8
  let v26 : Index := Scalar.indexCast v25
  let c0_9 : Index := 0#32
  ![v26.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S8192x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S32768x3 : Shape := ⟨2, ![32768, 3]⟩
abbrev S32768x128 : Shape := ⟨2, ![32768, 128]⟩
abbrev S16 : Shape := ⟨1, ![16]⟩
abbrev S128x128 : Shape := ⟨2, ![128, 128]⟩
abbrev S128 : Shape := ⟨1, ![128]⟩
abbrev S256x128 : Shape := ⟨2, ![256, 128]⟩
abbrev S1 : Shape := ⟨1, ![1]⟩
abbrev S15 : Shape := ⟨1, ![15]⟩
abbrev S_ : Shape := ⟨0, ![]⟩
abbrev S32768 : Shape := ⟨1, ![32768]⟩
abbrev S16x1 : Shape := ⟨2, ![16, 1]⟩
abbrev S32768x1 : Shape := ⟨2, ![32768, 1]⟩
abbrev S1x1 : Shape := ⟨2, ![1, 1]⟩
abbrev S16x128 : Shape := ⟨2, ![16, 128]⟩
abbrev S1x128 : Shape := ⟨2, ![1, 128]⟩
abbrev S32768x256 : Shape := ⟨2, ![32768, 256]⟩

abbrev nBuf : Space → Nat
  | .hbm => 127
  | .vmem => 0
  | .smem => 0
  | _ => 0

abbrev bufTy : (tb : Table) → Fin (tcTables nBuf tb) → BufTy
  | .hbm, ⟨0, _⟩ => ⟨S32768x3, .f32⟩
  | .hbm, ⟨1, _⟩ => ⟨S32768x128, .f32⟩
  | .hbm, ⟨2, _⟩ => ⟨S16, .i32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1, .i32⟩
  | .hbm, ⟨10, _⟩ => ⟨S15, .i32⟩
  | .hbm, ⟨11, _⟩ => ⟨S15, .i32⟩
  | .hbm, ⟨12, _⟩ => ⟨S15, .i32⟩
  | .hbm, ⟨13, _⟩ => ⟨S16, .i32⟩
  | .hbm, ⟨14, _⟩ => ⟨S16, .i32⟩
  | .hbm, ⟨15, _⟩ => ⟨S1, .i32⟩
  | .hbm, ⟨16, _⟩ => ⟨S15, .i32⟩
  | .hbm, ⟨17, _⟩ => ⟨S16, .i32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S16, .i32⟩
  | .hbm, ⟨22, _⟩ => ⟨S_, .i32⟩
  | .hbm, ⟨23, _⟩ => ⟨S_, .i32⟩
  | .hbm, ⟨24, _⟩ => ⟨S16, .i32⟩
  | .hbm, ⟨25, _⟩ => ⟨S_, .i32⟩
  | .hbm, ⟨26, _⟩ => ⟨S32768, .i32⟩
  | .hbm, ⟨27, _⟩ => ⟨S_, .i32⟩
  | .hbm, ⟨28, _⟩ => ⟨S16, .i32⟩
  | .hbm, ⟨29, _⟩ => ⟨S16, .i1⟩
  | .hbm, ⟨30, _⟩ => ⟨S_, .i32⟩
  | .hbm, ⟨31, _⟩ => ⟨S16, .i32⟩
  | .hbm, ⟨32, _⟩ => ⟨S16, .i32⟩
  | .hbm, ⟨33, _⟩ => ⟨S16, .i32⟩
  | .hbm, ⟨34, _⟩ => ⟨S16x1, .i32⟩
  | .hbm, ⟨35, _⟩ => ⟨S_, .i32⟩
  | .hbm, ⟨36, _⟩ => ⟨S16, .i32⟩
  | .hbm, ⟨37, _⟩ => ⟨S32768, .i32⟩
  | .hbm, ⟨38, _⟩ => ⟨S_, .i32⟩
  | .hbm, ⟨39, _⟩ => ⟨S_, .i32⟩
  | .hbm, ⟨40, _⟩ => ⟨S32768, .i32⟩
  | .hbm, ⟨41, _⟩ => ⟨S_, .i32⟩
  | .hbm, ⟨42, _⟩ => ⟨S32768, .i32⟩
  | .hbm, ⟨43, _⟩ => ⟨S32768, .i32⟩
  | .hbm, ⟨44, _⟩ => ⟨S_, .i32⟩
  | .hbm, ⟨45, _⟩ => ⟨S32768, .i32⟩
  | .hbm, ⟨46, _⟩ => ⟨S32768, .i1⟩
  | .hbm, ⟨47, _⟩ => ⟨S_, .i32⟩
  | .hbm, ⟨48, _⟩ => ⟨S32768, .i32⟩
  | .hbm, ⟨49, _⟩ => ⟨S32768, .i32⟩
  | .hbm, ⟨50, _⟩ => ⟨S32768, .i32⟩
  | .hbm, ⟨51, _⟩ => ⟨S32768x1, .i32⟩
  | .hbm, ⟨52, _⟩ => ⟨S1, .i32⟩
  | .hbm, ⟨53, _⟩ => ⟨S_, .i32⟩
  | .hbm, ⟨54, _⟩ => ⟨S32768x1, .i32⟩
  | .hbm, ⟨55, _⟩ => ⟨S32768x1, .i1⟩
  | .hbm, ⟨56, _⟩ => ⟨S1x1, .i32⟩
  | .hbm, ⟨57, _⟩ => ⟨S32768x1, .i32⟩
  | .hbm, ⟨58, _⟩ => ⟨S32768x1, .i1⟩
  | .hbm, ⟨59, _⟩ => ⟨S32768x1, .i1⟩
  | .hbm, ⟨60, _⟩ => ⟨S_, .i1⟩
  | .hbm, ⟨61, _⟩ => ⟨S32768, .i1⟩
  | .hbm, ⟨62, _⟩ => ⟨S32768, .i32⟩
  | .hbm, ⟨63, _⟩ => ⟨S_, .i32⟩
  | .hbm, ⟨64, _⟩ => ⟨S32768, .i32⟩
  | .hbm, ⟨65, _⟩ => ⟨S32768, .i32⟩
  | .hbm, ⟨66, _⟩ => ⟨S_, .f32⟩
  | .hbm, ⟨67, _⟩ => ⟨S16x128, .f32⟩
  | .hbm, ⟨68, _⟩ => ⟨S32768x1, .i32⟩
  | .hbm, ⟨69, _⟩ => ⟨S16x128, .f32⟩
  | .hbm, ⟨70, _⟩ => ⟨S16x1, .i32⟩
  | .hbm, ⟨71, _⟩ => ⟨S16x1, .f32⟩
  | .hbm, ⟨72, _⟩ => ⟨S16x128, .f32⟩
  | .hbm, ⟨73, _⟩ => ⟨S16x128, .f32⟩
  | .hbm, ⟨74, _⟩ => ⟨S16x128, .f32⟩
  | .hbm, ⟨75, _⟩ => ⟨S1x128, .f32⟩
  | .hbm, ⟨76, _⟩ => ⟨S16x128, .f32⟩
  | .hbm, ⟨77, _⟩ => ⟨S16x128, .f32⟩
  | .hbm, ⟨78, _⟩ => ⟨S_, .f32⟩
  | .hbm, ⟨79, _⟩ => ⟨S16x128, .f32⟩
  | .hbm, ⟨80, _⟩ => ⟨S16x128, .f32⟩
  | .hbm, ⟨81, _⟩ => ⟨S_, .i32⟩
  | .hbm, ⟨82, _⟩ => ⟨S32768, .i32⟩
  | .hbm, ⟨83, _⟩ => ⟨S32768, .i1⟩
  | .hbm, ⟨84, _⟩ => ⟨S_, .i32⟩
  | .hbm, ⟨85, _⟩ => ⟨S32768, .i32⟩
  | .hbm, ⟨86, _⟩ => ⟨S32768, .i32⟩
  | .hbm, ⟨87, _⟩ => ⟨S32768, .i32⟩
  | .hbm, ⟨88, _⟩ => ⟨S32768x1, .i32⟩
  | .hbm, ⟨89, _⟩ => ⟨S32768x128, .f32⟩
  | .hbm, ⟨90, _⟩ => ⟨S32768x256, .f32⟩
  | .hbm, ⟨91, _⟩ => ⟨S32768x128, .f32⟩
  | .hbm, ⟨92, _⟩ => ⟨S1x128, .f32⟩
  | .hbm, ⟨93, _⟩ => ⟨S32768x128, .f32⟩
  | .hbm, ⟨94, _⟩ => ⟨S32768x128, .f32⟩
  | .hbm, ⟨95, _⟩ => ⟨S_, .f32⟩
  | .hbm, ⟨96, _⟩ => ⟨S32768, .f32⟩
  | .hbm, ⟨97, _⟩ => ⟨S32768x1, .f32⟩
  | .hbm, ⟨98, _⟩ => ⟨S_, .f32⟩
  | .hbm, ⟨99, _⟩ => ⟨S32768x1, .f32⟩
  | .hbm, ⟨100, _⟩ => ⟨S32768x1, .f32⟩
  | .hbm, ⟨101, _⟩ => ⟨S32768x128, .f32⟩
  | .hbm, ⟨102, _⟩ => ⟨S32768x128, .f32⟩
  | .hbm, ⟨103, _⟩ => ⟨S32768x128, .f32⟩
  | .hbm, ⟨104, _⟩ => ⟨S_, .f32⟩
  | .hbm, ⟨105, _⟩ => ⟨S32768, .f32⟩
  | .hbm, ⟨106, _⟩ => ⟨S32768x1, .f32⟩
  | .hbm, ⟨107, _⟩ => ⟨S_, .f32⟩
  | .hbm, ⟨108, _⟩ => ⟨S32768x1, .f32⟩
  | .hbm, ⟨109, _⟩ => ⟨S32768x1, .f32⟩
  | .hbm, ⟨110, _⟩ => ⟨S32768x128, .f32⟩
  | .hbm, ⟨111, _⟩ => ⟨S32768x128, .f32⟩
  | .hbm, ⟨112, _⟩ => ⟨S_, .f32⟩
  | .hbm, ⟨113, _⟩ => ⟨S32768x1, .f32⟩
  | .hbm, ⟨114, _⟩ => ⟨S32768x1, .f32⟩
  | .hbm, ⟨115, _⟩ => ⟨S32768x1, .f32⟩
  | .hbm, ⟨116, _⟩ => ⟨S32768x128, .f32⟩
  | .hbm, ⟨117, _⟩ => ⟨S32768x128, .f32⟩
  | .hbm, ⟨118, _⟩ => ⟨S1x128, .f32⟩
  | .hbm, ⟨119, _⟩ => ⟨S32768x128, .f32⟩
  | .hbm, ⟨120, _⟩ => ⟨S32768x128, .f32⟩
  | .hbm, ⟨121, _⟩ => ⟨S1x128, .f32⟩
  | .hbm, ⟨122, _⟩ => ⟨S32768x128, .f32⟩
  | .hbm, ⟨123, _⟩ => ⟨S32768x128, .f32⟩
  | .hbm, ⟨124, _⟩ => ⟨S_, .f32⟩
  | .hbm, ⟨125, _⟩ => ⟨S32768x128, .f32⟩
  | .hbm, ⟨126, _⟩ => ⟨S32768x128, .f32⟩
  | _, _ => ⟨S32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_v0 : Ref sig .tc := ⟨.hbm, 15, rfl⟩
abbrev main_call0_v1 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_call1_call0_c : Ref sig .tc := ⟨.hbm, 22, rfl⟩
abbrev main_call1_call0_v0 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_v12 : Ref sig .tc := ⟨.hbm, 29, rfl⟩
abbrev main_c_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_call2_call0_c : Ref sig .tc := ⟨.hbm, 38, rfl⟩
abbrev main_call2_call0_v0 : Ref sig .tc := ⟨.hbm, 39, rfl⟩
abbrev main_v19 : Ref sig .tc := ⟨.hbm, 40, rfl⟩
abbrev main_c_5 : Ref sig .tc := ⟨.hbm, 41, rfl⟩
abbrev main_v20 : Ref sig .tc := ⟨.hbm, 42, rfl⟩
abbrev main_v21 : Ref sig .tc := ⟨.hbm, 43, rfl⟩
abbrev main_call3_c : Ref sig .tc := ⟨.hbm, 44, rfl⟩
abbrev main_call3_v0 : Ref sig .tc := ⟨.hbm, 45, rfl⟩
abbrev main_call3_v1 : Ref sig .tc := ⟨.hbm, 46, rfl⟩
abbrev main_call3_c_0 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_call3_v5 : Ref sig .tc := ⟨.hbm, 51, rfl⟩
abbrev main_call3_c_1 : Ref sig .tc := ⟨.hbm, 52, rfl⟩
abbrev main_call3_c_2 : Ref sig .tc := ⟨.hbm, 53, rfl⟩
abbrev main_call3_v6 : Ref sig .tc := ⟨.hbm, 54, rfl⟩
abbrev main_call3_v7 : Ref sig .tc := ⟨.hbm, 55, rfl⟩
abbrev main_call3_v8 : Ref sig .tc := ⟨.hbm, 56, rfl⟩
abbrev main_call3_v9 : Ref sig .tc := ⟨.hbm, 57, rfl⟩
abbrev main_call3_v10 : Ref sig .tc := ⟨.hbm, 58, rfl⟩
abbrev main_call3_v11 : Ref sig .tc := ⟨.hbm, 59, rfl⟩
abbrev main_call3_c_3 : Ref sig .tc := ⟨.hbm, 60, rfl⟩
abbrev main_call3_v12 : Ref sig .tc := ⟨.hbm, 61, rfl⟩
abbrev main_call3_v13 : Ref sig .tc := ⟨.hbm, 62, rfl⟩
abbrev main_call3_c_4 : Ref sig .tc := ⟨.hbm, 63, rfl⟩
abbrev main_call3_v14 : Ref sig .tc := ⟨.hbm, 64, rfl⟩
abbrev main_v22 : Ref sig .tc := ⟨.hbm, 65, rfl⟩
abbrev main_cst : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_call4_cst : Ref sig .tc := ⟨.hbm, 78, rfl⟩
abbrev main_call4_v0 : Ref sig .tc := ⟨.hbm, 79, rfl⟩
abbrev main_v34 : Ref sig .tc := ⟨.hbm, 80, rfl⟩
abbrev main_c_6 : Ref sig .tc := ⟨.hbm, 81, rfl⟩
abbrev main_v35 : Ref sig .tc := ⟨.hbm, 82, rfl⟩
abbrev main_v36 : Ref sig .tc := ⟨.hbm, 83, rfl⟩
abbrev main_c_7 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_cst_8 : Ref sig .tc := ⟨.hbm, 95, rfl⟩
abbrev main_v47 : Ref sig .tc := ⟨.hbm, 96, rfl⟩
abbrev main_v48 : Ref sig .tc := ⟨.hbm, 97, rfl⟩
abbrev main_cst_9 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_cst_10 : Ref sig .tc := ⟨.hbm, 104, rfl⟩
abbrev main_v54 : Ref sig .tc := ⟨.hbm, 105, rfl⟩
abbrev main_v55 : Ref sig .tc := ⟨.hbm, 106, rfl⟩
abbrev main_cst_11 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_cst_12 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_call5_cst : Ref sig .tc := ⟨.hbm, 124, rfl⟩
abbrev main_call5_v0 : Ref sig .tc := ⟨.hbm, 125, rfl⟩
abbrev main_v71 : Ref sig .tc := ⟨.hbm, 126, rfl⟩

abbrev nD : Nat := 1
abbrev τ : Topo := Topo.v7x

variable {F : FTy → Type} [FloatOps F]
-- ==== Proof.Points.lean ====
/- The grid's arithmetic: point `t` of the eight is in the first sweep when `t < 4`, works on block `t % 4` in both sweeps,
   and its rows of the product buffer begin at `8192 * (t % 4)`. -/
module

public import proofs.«01_k».proof.Proof.Gen.KernelIdeal.Skeleton
public import proofs.«01_k».proof.Proof.Gen.KernelIdeal.Frame
public import Idealize.ShloMosaic.Lib.WordCmp
public import Idealize.ShloMosaic.Lib.VecWindow

@[expose] public section

set_option maxRecDepth 16384

noncomputable section

namespace Cert.KernelIdeal.Body

open Cert.KernelIdeal.Gen
open Idealize.ShloMosaic Idealize.ShloMosaic.TcCoe Idealize.ShloMosaic.Tactic

/-- The second coordinate of a grid point is zero, as the body tests it. -/
abbrev blockZero (i : grid0.Coords) : Prop :=
  (Scalar.cmpi .ne (Scalar.extui (Scalar.cmpi .eq (BitVec.ofNat 32 (i 1).val) 0#32)) 0#32) = 1#1

/-- There are eight points. -/
theorem lt_eight (t : Fin cfg0.N) : t.val < 8 := Nat.lt_of_lt_of_eq t.isLt N_0

/-- The first coordinate of point `t` is its sweep. -/
theorem coord_sweep (t : Fin cfg0.N) : (grid0.coords t 0).val = t.val / 4 % 2 :=
  (fun t => Pipeline.Grid.coords_val t 0 (by decide) rfl : ∀ t : Fin grid0.N, (grid0.coords t 0).val = t.val / 4 % 2) t

/-- The second coordinate of point `t` is its block. -/
theorem coord_block (t : Fin cfg0.N) : (grid0.coords t 1).val = t.val % 4 :=
  (fun t => by
    have e : (grid0.coords t 1).val = t.val / 1 % 4 := Pipeline.Grid.coords_val t 1 (by decide) rfl
    rw [e, Nat.div_one] : ∀ t : Fin grid0.N, (grid0.coords t 1).val = t.val % 4) t

/-- The body's first condition holds at the first four points. -/
theorem first_sweep (t : Fin cfg0.N) : k0_cond1 (grid0.coords t) = 1#1 ↔ t.val < 4 := by
  have ht := lt_eight t
  simp only [k0_cond1, coord_sweep t]
  word_cmp

/-- The body's second-sweep condition holds at the last four points. -/
theorem second_sweep (t : Fin cfg0.N) : k0_cond3 (grid0.coords t) = 1#1 ↔ 4 ≤ t.val := by
  have ht := lt_eight t
  simp only [k0_cond3, coord_sweep t]
  word_cmp

/-- The block is the first one at points 0 and 4. -/
theorem block_zero (t : Fin cfg0.N) : blockZero (grid0.coords t) ↔ t.val % 4 = 0 := by
  have ht := lt_eight t
  simp only [blockZero, coord_block t]
  word_cmp

/-- The word of a block's first row. -/
theorem words : ∀ k < 4, (![(Scalar.indexCast (Scalar.muli (BitVec.ofNat 32 k) 8192#32)).toNat, 0] : Fin 2 → ℕ) = ![8192 * k, 0] := by
  decide

/-- The rows of the product buffer that the first sweep writes at point `t`. -/
theorem off_store (t : Fin cfg0.N) : k0_off1 (grid0.coords t) = ![8192 * (t.val % 4), 0] := by
  have h : t.val % 4 < 4 := Nat.mod_lt _ (by decide)
  simp only [k0_off1, coord_block t]
  exact words _ h

/-- The rows of the product buffer that the second sweep reads at point `t`. -/
theorem off_load (t : Fin cfg0.N) : k0_off2 (grid0.coords t) = ![8192 * (t.val % 4), 0] := by
  have h : t.val % 4 < 4 := Nat.mod_lt _ (by decide)
  simp only [k0_off2, coord_block t]
  exact words _ h

/-- The output's block is written back at the points of the second sweep, and only there. -/
theorem out_flush (t : Fin cfg0.N) : (cfg0.win 12).flush t = true ↔ 4 ≤ t.val := by
  have h : ∀ t : Fin grid0.N, win0_12.flush t = true ↔ 4 ≤ t.val := by decide +kernel
  exact h t

/-- The output is idle in the first sweep. -/
theorem out_idle (t : Fin cfg0.N) (h : t.val < 4) : cfg0.idle 12 (grid0.coords t) = true := by
  have h' : ¬ k0_cond3 (grid0.coords t) = 1#1 := fun e => absurd ((second_sweep t).mp e) (by omega)
  show (!(k0_cond3 (grid0.coords t) == 1#1)) = true
  simp [h']

/-- The output is not idle in the second sweep. -/
theorem out_live (t : Fin cfg0.N) (h : 4 ≤ t.val) : cfg0.idle 12 (grid0.coords t) = false := by
  have h' : k0_cond3 (grid0.coords t) = 1#1 := (second_sweep t).mpr h
  show (!(k0_cond3 (grid0.coords t) == 1#1)) = false
  simp [h']

/-- Point `k`, for `k` below four, among the eight. -/
def pt (k : Fin 4) : Fin cfg0.N := ⟨k.val, by have := k.isLt; have e : cfg0.N = 8 := N_0; omega⟩

/-- Block `k`'s rows lie inside the product buffer. -/
theorem rows_inb (k : Fin 4) : ∀ a, (![8192 * k.val, 0] : Fin 2 → ℕ) a + S8192x128.size a ≤ S32768x128.size a := by
  have := k.isLt
  intro a; fin_cases a
  · show 8192 * k.val + 8192 ≤ 32768; omega
  · show 0 + 128 ≤ 128; omega

end Cert.KernelIdeal.Body

end
-- ==== Proof.Body.lean ====
/- What one run of the kernel body leaves, at a grid point of each of the four kinds: the first point of the first
   sweep (the segment sums are cleared, then the first block is added), a later point of the first sweep, the first point
   of the second sweep (the pooled network is evaluated), and a later point of the second sweep. Every statement is for
   any float values. -/
module

public import proofs.«01_k».proof.Proof.Points

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A load of the whole of a memref that holds `x` is `x`. -/
theorem whole_load {s : Shape} {e : EltTy} {v : Memref sig .tc .vmem s e} (h : v.IsWhole) {x : s.Idx → Elt F e}
    {off : Fin s.rank → ℕ} {inb : ∀ a, off a + s.size a ≤ s.size a} :
    View.readAt (Elt F) v.view (Rect.unit off s.size inb).toLoadRect (h.unread x) = x :=
  (View.readAt_full v.view _ inb).trans (h.read_unread x)

/-- The twelve staged operands, each held whole at its contents. -/
abbrev Operands (c : Dev nD)
  (arg2 : Memref sig .tc .vmem S8192x128 .f32)
  (arg3 : Memref sig .tc .vmem S16x1 .i32)
  (arg4 : Memref sig .tc .vmem S16x1 .i32)
  (arg5 : Memref sig .tc .vmem S16x1 .f32)
  (arg6 : Memref sig .tc .vmem S128x128 .f32)
  (arg7 : Memref sig .tc .vmem S1x128 .f32)
  (arg8 : Memref sig .tc .vmem S128x128 .f32)
  (arg9 : Memref sig .tc .vmem S1x128 .f32)
  (arg10 : Memref sig .tc .vmem S128x128 .f32)
  (arg11 : Memref sig .tc .vmem S1x128 .f32)
  (arg12 : Memref sig .tc .vmem S1x128 .f32)
  (arg13 : Memref sig .tc .vmem S128x128 .f32)
  (x0 : Vec F S8192x128 .f32)
  (x1 : Vec F S16x1 .i32)
  (x2 : Vec F S16x1 .i32)
  (x3 : Vec F S16x1 .f32)
  (x4 : Vec F S128x128 .f32)
  (x5 : Vec F S1x128 .f32)
  (x6 : Vec F S128x128 .f32)
  (x7 : Vec F S1x128 .f32)
  (x8 : Vec F S128x128 .f32)
  (x9 : Vec F S1x128 .f32)
  (x10 : Vec F S1x128 .f32)
  (x11 : Vec F S128x128 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11)

section Runs

variable (c : Dev nD) (i : grid0.Coords)
  (arg2 : Memref sig .tc .vmem S8192x128 .f32) (harg2 : arg2.IsWhole)
  (arg3 : Memref sig .tc .vmem S16x1 .i32) (harg3 : arg3.IsWhole)
  (arg4 : Memref sig .tc .vmem S16x1 .i32) (harg4 : arg4.IsWhole)
  (arg5 : Memref sig .tc .vmem S16x1 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S128x128 .f32) (harg8 : arg8.IsWhole)
  (arg9 : Memref sig .tc .vmem S1x128 .f32) (harg9 : arg9.IsWhole)
  (arg10 : Memref sig .tc .vmem S128x128 .f32) (harg10 : arg10.IsWhole)
  (arg11 : Memref sig .tc .vmem S1x128 .f32) (harg11 : arg11.IsWhole)
  (arg12 : Memref sig .tc .vmem S1x128 .f32) (harg12 : arg12.IsWhole)
  (arg13 : Memref sig .tc .vmem S128x128 .f32) (harg13 : arg13.IsWhole)
  (arg14 : Memref sig .tc .vmem S8192x128 .f32) (harg14 : arg14.IsWhole)
  (arg15 : Memref sig .tc .vmem S32768x128 .f32) (harg15 : arg15.IsWhole)
  (arg16 : Memref sig .tc .vmem S16x128 .f32) (harg16 : arg16.IsWhole)
  (arg17 : Memref sig .tc .vmem S16x128 .f32) (harg17 : arg17.IsWhole)
  (x0 : Vec F S8192x128 .f32)
  (x1 : Vec F S16x1 .i32)
  (x2 : Vec F S16x1 .i32)
  (x3 : Vec F S16x1 .f32)
  (x4 : Vec F S128x128 .f32)
  (x5 : Vec F S1x128 .f32)
  (x6 : Vec F S128x128 .f32)
  (x7 : Vec F S1x128 .f32)
  (x8 : Vec F S128x128 .f32)
  (x9 : Vec F S1x128 .f32)
  (x10 : Vec F S1x128 .f32)
  (x11 : Vec F S128x128 .f32)

set_option maxHeartbeats 1000000 in
/-- The first point: the sums become the first block's, and the block's product is put in its rows of the product buffer; the output buffer and the pooled rows are not touched. -/
theorem run_first (h0 : k0_cond1 i = 1#1) (h1 : blockZero i) (h3 : ¬ k0_cond3 i = 1#1) (z : Vec F S8192x128 .f32) (y : Vec F S32768x128 .f32)  (E : Set ℕ) (K : PUnit → sProp 𝕄) :
    iprop(Operands c arg2 arg3 arg4 arg5 arg6 arg7 arg8 arg9 arg10 arg11 arg12 arg13 x0 x1 x2 x3 x4 x5 x6 x7 x8 x9 x10 x11 ∗ owns (c : Thread nD τ) arg14 fullShare z ∗ owns (c : Thread nD τ) arg15 fullShare y ∗ (∃ d, owns (c : Thread nD τ) arg16 fullShare d) ∗ (∃ d, owns (c : Thread nD τ) arg17 fullShare d)
        ∗ (iprop(Operands c arg2 arg3 arg4 arg5 arg6 arg7 arg8 arg9 arg10 arg11 arg12 arg13 x0 x1 x2 x3 x4 x5 x6 x7 x8 x9 x10 x11 ∗ owns (c : Thread nD τ) arg14 fullShare z ∗ owns (c : Thread nD τ) arg15 fullShare (VecWindow.put y (k0_off1 i) S8192x128.size (k0_pay4 x0 x8)) ∗ owns (c : Thread nD τ) arg16 fullShare (k0_pay3 i x1 x2 x0 (k0_pay2 (F := F))) ∗ (∃ d, owns (c : Thread nD τ) arg17 fullShare d)) -∗ K ⟨⟩))
      ⊢ wp frame (wpE (defs₀ (F := F)) Variants.none c none) E
          (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__body_eq_skeleton]; unfold cc0__body_skel
  unfold Operands owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%f12, %hf12, H12⟩, ⟨%f13, %hf13, H13⟩, ⟨%d14, %f14, -, H14⟩, ⟨%d15, %f15, -, H15⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec (disch := first | sl_exact h0 | sl_exact h1 | sl_exact h3)
  sl_step
  iapply Hk
  isplitl [H0 H1 H2 H3 H4 H5 H6 H7 H8 H9 H10 H11]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; isplitr; · ipureintro; exact harg13.read_unread _
    iexact H11
  isplitl [H12]
  · iexists _; isplitr; swap; · iexact H12
    ipureintro; exact harg14.read_unread _
  isplitl [H13]
  · iexists _; isplitr; swap; · iexact H13
    ipureintro; rw [View.read_writes_cons_put arg15.view _ (k0_off1_inb i h0) _ _ rfl, View.writes_nil, harg15.read_unread, whole_load harg2, whole_load harg10]
  isplitl [H14]
  · iexists _; isplitr; swap; · iexact H14
    ipureintro; sl_unfold_words; rw [View.read_writes_full, View.readCov_full, whole_load harg2, whole_load harg3, whole_load harg4]
  iexists _, _; isplitr; swap; · iexact H15
  ipureintro; rfl

set_option maxHeartbeats 1000000 in
/-- A later point of the first sweep: the block is added to the sums, and its product is put in its rows of the product buffer. -/
theorem run_sum (h0 : k0_cond1 i = 1#1) (h1 : ¬ blockZero i) (h3 : ¬ k0_cond3 i = 1#1) (z : Vec F S8192x128 .f32) (y : Vec F S32768x128 .f32) (s : Vec F S16x128 .f32)  (E : Set ℕ) (K : PUnit → sProp 𝕄) :
    iprop(Operands c arg2 arg3 arg4 arg5 arg6 arg7 arg8 arg9 arg10 arg11 arg12 arg13 x0 x1 x2 x3 x4 x5 x6 x7 x8 x9 x10 x11 ∗ owns (c : Thread nD τ) arg14 fullShare z ∗ owns (c : Thread nD τ) arg15 fullShare y ∗ owns (c : Thread nD τ) arg16 fullShare s ∗ (∃ d, owns (c : Thread nD τ) arg17 fullShare d)
        ∗ (iprop(Operands c arg2 arg3 arg4 arg5 arg6 arg7 arg8 arg9 arg10 arg11 arg12 arg13 x0 x1 x2 x3 x4 x5 x6 x7 x8 x9 x10 x11 ∗ owns (c : Thread nD τ) arg14 fullShare z ∗ owns (c : Thread nD τ) arg15 fullShare (VecWindow.put y (k0_off1 i) S8192x128.size (k0_pay4 x0 x8)) ∗ owns (c : Thread nD τ) arg16 fullShare (k0_pay3 i x1 x2 x0 s) ∗ (∃ d, owns (c : Thread nD τ) arg17 fullShare d)) -∗ K ⟨⟩))
      ⊢ wp frame (wpE (defs₀ (F := F)) Variants.none c none) E
          (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__body_eq_skeleton]; unfold cc0__body_skel
  unfold Operands owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%f12, %hf12, H12⟩, ⟨%f13, %hf13, H13⟩, ⟨%f14, %hf14, H14⟩, ⟨%d15, %f15, -, H15⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
  sl_exec (disch := first | sl_exact h0 | sl_exact h1 | sl_exact h3)
  sl_step
  iapply Hk
  isplitl [H0 H1 H2 H3 H4 H5 H6 H7 H8 H9 H10 H11]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; isplitr; · ipureintro; exact harg13.read_unread _
    iexact H11
  isplitl [H12]
  · iexists _; isplitr; swap; · iexact H12
    ipureintro; exact harg14.read_unread _
  isplitl [H13]
  · iexists _; isplitr; swap; · iexact H13
    ipureintro; rw [View.read_writes_cons_put arg15.view _ (k0_off1_inb i h0) _ _ rfl, View.writes_nil, harg15.read_unread, whole_load harg2, whole_load harg10]
  isplitl [H14]
  · iexists _; isplitr; swap; · iexact H14
    ipureintro; rw [View.read_writes_full, whole_load harg2, whole_load harg3, whole_load harg4, whole_load harg16]
  iexists _, _; isplitr; swap; · iexact H15
  ipureintro; rfl

set_option maxHeartbeats 1000000 in
/-- The first point of the second sweep: the pooled rows are computed from the sums, and the output block from them. -/
theorem run_pool (h0 : ¬ k0_cond1 i = 1#1) (h1 : blockZero i) (h3 : k0_cond3 i = 1#1) (y : Vec F S32768x128 .f32) (s : Vec F S16x128 .f32)  (E : Set ℕ) (K : PUnit → sProp 𝕄) :
    iprop(Operands c arg2 arg3 arg4 arg5 arg6 arg7 arg8 arg9 arg10 arg11 arg12 arg13 x0 x1 x2 x3 x4 x5 x6 x7 x8 x9 x10 x11 ∗ (∃ d, owns (c : Thread nD τ) arg14 fullShare d) ∗ owns (c : Thread nD τ) arg15 fullShare y ∗ owns (c : Thread nD τ) arg16 fullShare s ∗ (∃ d, owns (c : Thread nD τ) arg17 fullShare d)
        ∗ (iprop(Operands c arg2 arg3 arg4 arg5 arg6 arg7 arg8 arg9 arg10 arg11 arg12 arg13 x0 x1 x2 x3 x4 x5 x6 x7 x8 x9 x10 x11 ∗ owns (c : Thread nD τ) arg14 fullShare (k0_pay6 i x1 x2 (VecWindow.window y (k0_off2 i) S8192x128.size (k0_off2_inb i h3)) (k0_pay5 s x3 x4 x5 x6 x7) x11 x9 x10) ∗ owns (c : Thread nD τ) arg15 fullShare y ∗ owns (c : Thread nD τ) arg16 fullShare s ∗ owns (c : Thread nD τ) arg17 fullShare (k0_pay5 s x3 x4 x5 x6 x7)) -∗ K ⟨⟩))
      ⊢ wp frame (wpE (defs₀ (F := F)) Variants.none c none) E
          (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__body_eq_skeleton]; unfold cc0__body_skel
  unfold Operands owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%d12, %f12, -, H12⟩, ⟨%f13, %hf13, H13⟩, ⟨%f14, %hf14, H14⟩, ⟨%d15, %f15, -, H15⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hf13; obtain rfl := harg16.eq_unread hf14
  sl_exec (disch := first | sl_exact h0 | sl_exact h1 | sl_exact h3)
  sl_step
  iapply Hk
  isplitl [H0 H1 H2 H3 H4 H5 H6 H7 H8 H9 H10 H11]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; isplitr; · ipureintro; exact harg13.read_unread _
    iexact H11
  isplitl [H12]
  · iexists _; isplitr; swap; · iexact H12
    ipureintro; rw [View.read_writes_full, View.readAt_unit arg15.view _ (k0_off2_inb i h3) rfl (k0_off2_inb i h3), harg15.read_unread]; sl_unfold_words; rw [View.readCov_full, whole_load harg3, whole_load harg4, whole_load harg5, whole_load harg6, whole_load harg7, whole_load harg8, whole_load harg9, whole_load harg11, whole_load harg12, whole_load harg13, whole_load harg16]
  isplitl [H13]
  · iexists _; isplitr; swap; · iexact H13
    ipureintro; exact harg15.read_unread _
  isplitl [H14]
  · iexists _; isplitr; swap; · iexact H14
    ipureintro; exact harg16.read_unread _
  iexists _; isplitr; swap; · iexact H15
  ipureintro; sl_unfold_words; rw [View.read_writes_full, whole_load harg16, whole_load harg5, whole_load harg6, whole_load harg7, whole_load harg8, whole_load harg9]

set_option maxHeartbeats 1000000 in
/-- A later point of the second sweep: the output block is computed from the pooled rows. -/
theorem run_out (h0 : ¬ k0_cond1 i = 1#1) (h1 : ¬ blockZero i) (h3 : k0_cond3 i = 1#1) (y : Vec F S32768x128 .f32) (s : Vec F S16x128 .f32) (p : Vec F S16x128 .f32)  (E : Set ℕ) (K : PUnit → sProp 𝕄) :
    iprop(Operands c arg2 arg3 arg4 arg5 arg6 arg7 arg8 arg9 arg10 arg11 arg12 arg13 x0 x1 x2 x3 x4 x5 x6 x7 x8 x9 x10 x11 ∗ (∃ d, owns (c : Thread nD τ) arg14 fullShare d) ∗ owns (c : Thread nD τ) arg15 fullShare y ∗ owns (c : Thread nD τ) arg16 fullShare s ∗ owns (c : Thread nD τ) arg17 fullShare p
        ∗ (iprop(Operands c arg2 arg3 arg4 arg5 arg6 arg7 arg8 arg9 arg10 arg11 arg12 arg13 x0 x1 x2 x3 x4 x5 x6 x7 x8 x9 x10 x11 ∗ owns (c : Thread nD τ) arg14 fullShare (k0_pay6 i x1 x2 (VecWindow.window y (k0_off2 i) S8192x128.size (k0_off2_inb i h3)) p x11 x9 x10) ∗ owns (c : Thread nD τ) arg15 fullShare y ∗ owns (c : Thread nD τ) arg16 fullShare s ∗ owns (c : Thread nD τ) arg17 fullShare p) -∗ K ⟨⟩))
      ⊢ wp frame (wpE (defs₀ (F := F)) Variants.none c none) E
          (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__body_eq_skeleton]; unfold cc0__body_skel
  unfold Operands owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%d12, %f12, -, H12⟩, ⟨%f13, %hf13, H13⟩, ⟨%f14, %hf14, H14⟩, ⟨%f15, %hf15, H15⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hf13; obtain rfl := harg16.eq_unread hf14; obtain rfl := harg17.eq_unread hf15
  sl_exec (disch := first | sl_exact h0 | sl_exact h1 | sl_exact h3)
  sl_step
  iapply Hk
  isplitl [H0 H1 H2 H3 H4 H5 H6 H7 H8 H9 H10 H11]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; isplitr; · ipureintro; exact harg13.read_unread _
    iexact H11
  isplitl [H12]
  · iexists _; isplitr; swap; · iexact H12
    ipureintro; rw [View.read_writes_full, View.readAt_unit arg15.view _ (k0_off2_inb i h3) rfl (k0_off2_inb i h3), harg15.read_unread, whole_load harg3, whole_load harg4, whole_load harg17, whole_load harg11, whole_load harg12, whole_load harg13]
  isplitl [H13]
  · iexists _; isplitr; swap; · iexact H13
    ipureintro; exact harg15.read_unread _
  isplitl [H14]
  · iexists _; isplitr; swap; · iexact H14
    ipureintro; exact harg16.read_unread _
  iexists _; isplitr; swap; · iexact H15
  ipureintro; exact harg17.read_unread _

end Runs

end Cert.KernelIdeal.Body

end
-- ==== Proof.Data.lean ====
/- What the buffers hold point by point, and the run of the whole pipeline: after the first sweep the product buffer holds
   every block's product and the sums buffer the four blocks' sums; the second sweep computes each output block from
   them. The result is `run_frame` (the arguments end unchanged) and `run_value` (the output array is `result`). -/
module

public import proofs.«01_k».proof.Proof.Body
public import Idealize.ShloMosaic.Lib.Claim
public import Idealize.ShloMosaic.Lib.Pipeline.ValueKit.Geometry

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The values -/

/-- Block `k` of the product buffer. -/
def rowsOf (y : Vec F S32768x128 .f32) (k : Fin 4) : Vec F S8192x128 .f32 :=
  VecWindow.window y ![8192 * k.val, 0] S8192x128.size (rows_inb k)

/-- The block the second sweep reads at point `t` is block `t % 4`. -/
theorem window_load (t : Fin cfg0.N) (h) (y : Vec F S32768x128 .f32) :
    VecWindow.window y (k0_off2 (grid0.coords t)) S8192x128.size h = rowsOf y ⟨t.val % 4, Nat.mod_lt _ (by decide)⟩ := by
  unfold rowsOf VecWindow.window
  funext z
  congr 1
  funext a
  apply Fin.ext
  show k0_off2 (grid0.coords t) a + 1 * (z a).val = (![8192 * (t.val % 4), 0] : Fin 2 → ℕ) a + 1 * (z a).val
  exact congrArg (· + 1 * (z a).val) (congrFun (off_load t) a)

/-- The block the first sweep writes at point `k` is block `k`, and holds what was written. -/
theorem rowsOf_put (y : Vec F S32768x128 .f32) (w : Vec F S8192x128 .f32) (k : Fin 4) :
    rowsOf (VecWindow.put y ![8192 * k.val, 0] S8192x128.size w) k = w :=
  VecWindow.window_put_same y _ _ (rows_inb k) w

/-- The other blocks keep their contents. -/
theorem rowsOf_put_of_ne (y : Vec F S32768x128 .f32) (w : Vec F S8192x128 .f32) (k j : Fin 4) (h : j ≠ k) :
    rowsOf (VecWindow.put y ![8192 * k.val, 0] S8192x128.size w) j = rowsOf y j := by
  have : j.val ≠ k.val := fun e => h (Fin.ext e)
  refine VecWindow.window_put_of_disjoint y _ _ _ _ (rows_inb j) w 0 ?_
  show 8192 * j.val + 8192 ≤ 8192 * k.val ∨ 8192 * k.val + 8192 ≤ 8192 * j.val
  omega

/-- Block `k`'s product: its rows of `x` times the first half of the weights. -/
def prod (c : Dev nD) (k : Fin 4) : Vec F S8192x128 .f32 := k0_pay4 (iblk m c 0 (pt k)) (iblk m c 8 (pt k))

/-- The segment sums of the first `n` blocks. -/
def sums (c : Dev nD) : ℕ → Vec F S16x128 .f32
  | 0 => k0_pay2
  | n + 1 => if h : n < 4 then
      k0_pay3 (grid0.coords (pt ⟨n, h⟩)) (iblk m c 1 (pt ⟨n, h⟩)) (iblk m c 2 (pt ⟨n, h⟩)) (iblk m c 0 (pt ⟨n, h⟩)) (sums c n)
    else sums c n

/-- The first point of the second sweep. -/
def pt4 : Fin cfg0.N := ⟨4, by have e : cfg0.N = 8 := N_0; omega⟩

/-- The pooled rows: the network applied to the segment means. -/
def pooled (c : Dev nD) : Vec F S16x128 .f32 :=
  k0_pay5 (sums m c 4) (iblk m c 3 pt4) (iblk m c 4 pt4) (iblk m c 5 pt4) (iblk m c 6 pt4) (iblk m c 7 pt4)

/-- The output block of point `t` of the second sweep. -/
def outBlock (c : Dev nD) (t : Fin cfg0.N) : Vec F S8192x128 .f32 :=
  k0_pay6 (grid0.coords t) (iblk m c 1 t) (iblk m c 2 t) (prod m c ⟨t.val % 4, Nat.mod_lt _ (by decide)⟩) (pooled m c)
    (iblk m c 11 t) (iblk m c 9 t) (iblk m c 10 t)

/-- The product buffer after `n` points: the blocks visited hold their products. -/
def Rows (c : Dev nD) (n : ℕ) (y : Vec F S32768x128 .f32) : Prop := ∀ k : Fin 4, k.val < n → rowsOf y k = prod m c k

/-- The sums buffer after `n` points. -/
def Sums (c : Dev nD) (n : ℕ) (s : Vec F S16x128 .f32) : Prop := 0 < n → s = sums m c (min n 4)

/-- The pooled rows' buffer after `n` points. -/
def Pooled (c : Dev nD) (n : ℕ) (p : Vec F S16x128 .f32) : Prop := 4 < n → p = pooled m c

/-- A point of the first sweep extends the product buffer. -/
theorem Rows.step (c : Dev nD) (t : Fin cfg0.N) (ht : t.val < 4) {y : Vec F S32768x128 .f32} (h : Rows m c t.val y) :
    Rows m c (t.val + 1) (VecWindow.put y (k0_off1 (grid0.coords t)) S8192x128.size (k0_pay4 (iblk m c 0 t) (iblk m c 8 t))) := by
  intro k hk
  rw [off_store, Nat.mod_eq_of_lt ht]
  by_cases e : k.val = t.val
  · obtain rfl : t = pt k := Fin.ext e.symm
    exact rowsOf_put y _ k
  · have := rowsOf_put_of_ne y (k0_pay4 (iblk m c 0 t) (iblk m c 8 t)) ⟨t.val, ht⟩ k (fun e' => e (congrArg Fin.val e'))
    rw [this]
    exact h k (by omega)

/-- The second sweep keeps the product buffer. -/
theorem Rows.keep (c : Dev nD) (n : ℕ) (hn : 4 ≤ n) {y : Vec F S32768x128 .f32} (h : Rows m c n y) : Rows m c (n + 1) y :=
  fun k _ => h k (lt_of_lt_of_le k.isLt hn)

/-- The first point gives the first block's sums. -/
theorem Sums.first (c : Dev nD) (t : Fin cfg0.N) (ht : t.val = 0) :
    Sums m c (t.val + 1) (k0_pay3 (grid0.coords t) (iblk m c 1 t) (iblk m c 2 t) (iblk m c 0 t) (k0_pay2 (F := F))) := by
  intro _
  obtain rfl : t = pt 0 := Fin.ext ht
  show _ = sums m c 1
  unfold sums
  rw [dif_pos (by decide)]
  rfl

/-- A later point of the first sweep adds its block. -/
theorem Sums.step (c : Dev nD) (t : Fin cfg0.N) (h0 : 0 < t.val) (ht : t.val < 4) {s : Vec F S16x128 .f32} (h : Sums m c t.val s) :
    Sums m c (t.val + 1) (k0_pay3 (grid0.coords t) (iblk m c 1 t) (iblk m c 2 t) (iblk m c 0 t) s) := by
  intro _
  rw [h h0, Nat.min_eq_left (by omega), Nat.min_eq_left (by omega)]
  conv_rhs => unfold sums
  rw [dif_pos ht]
  rfl

/-- The second sweep keeps the sums. -/
theorem Sums.keep (c : Dev nD) (n : ℕ) (hn : 4 ≤ n) {s : Vec F S16x128 .f32} (h : Sums m c n s) : Sums m c (n + 1) s := fun _ => by
  rw [h (by omega), Nat.min_eq_right hn, Nat.min_eq_right (by omega)]

/-- What the second sweep reads of the product buffer. -/
theorem Rows.load (c : Dev nD) (t : Fin cfg0.N) (ht : 4 ≤ t.val) (i) {y : Vec F S32768x128 .f32} (h : Rows m c t.val y) :
    VecWindow.window y (k0_off2 (grid0.coords t)) S8192x128.size i = prod m c ⟨t.val % 4, Nat.mod_lt _ (by decide)⟩ := by
  rw [window_load]
  exact h _ (lt_of_lt_of_le (Nat.mod_lt _ (by decide)) ht)

/-! ## The staging memrefs and the scratch buffers -/

/-- Operand 0's staging memref at a point. -/
abbrev st0 (t : Fin cfg0.N) : Memref sig .tc .vmem S8192x128 .f32 := win0_0.stage (cfg0.slots t 0)
/-- Operand 1's staging memref at a point. -/
abbrev st1 (t : Fin cfg0.N) : Memref sig .tc .vmem S16x1 .i32 := win0_1.stage (cfg0.slots t 1)
/-- Operand 2's staging memref at a point. -/
abbrev st2 (t : Fin cfg0.N) : Memref sig .tc .vmem S16x1 .i32 := win0_2.stage (cfg0.slots t 2)
/-- Operand 3's staging memref at a point. -/
abbrev st3 (t : Fin cfg0.N) : Memref sig .tc .vmem S16x1 .f32 := win0_3.stage (cfg0.slots t 3)
/-- Operand 4's staging memref at a point. -/
abbrev st4 (t : Fin cfg0.N) : Memref sig .tc .vmem S128x128 .f32 := win0_4.stage (cfg0.slots t 4)
/-- Operand 5's staging memref at a point. -/
abbrev st5 (t : Fin cfg0.N) : Memref sig .tc .vmem S1x128 .f32 := win0_5.stage (cfg0.slots t 5)
/-- Operand 6's staging memref at a point. -/
abbrev st6 (t : Fin cfg0.N) : Memref sig .tc .vmem S128x128 .f32 := win0_6.stage (cfg0.slots t 6)
/-- Operand 7's staging memref at a point. -/
abbrev st7 (t : Fin cfg0.N) : Memref sig .tc .vmem S1x128 .f32 := win0_7.stage (cfg0.slots t 7)
/-- Operand 8's staging memref at a point. -/
abbrev st8 (t : Fin cfg0.N) : Memref sig .tc .vmem S128x128 .f32 := win0_8.stage (cfg0.slots t 8)
/-- Operand 9's staging memref at a point. -/
abbrev st9 (t : Fin cfg0.N) : Memref sig .tc .vmem S1x128 .f32 := win0_9.stage (cfg0.slots t 9)
/-- Operand 10's staging memref at a point. -/
abbrev st10 (t : Fin cfg0.N) : Memref sig .tc .vmem S1x128 .f32 := win0_10.stage (cfg0.slots t 10)
/-- Operand 11's staging memref at a point. -/
abbrev st11 (t : Fin cfg0.N) : Memref sig .tc .vmem S128x128 .f32 := win0_11.stage (cfg0.slots t 11)
/-- Operand 12's staging memref at a point. -/
abbrev st12 (t : Fin cfg0.N) : Memref sig .tc .vmem S8192x128 .f32 := win0_12.stage (cfg0.slots t 12)
/-- The product buffer. -/
abbrev bufY : Memref sig .tc .vmem S32768x128 .f32 := Memref.whole cc0_scratch0
/-- The sums buffer. -/
abbrev bufS : Memref sig .tc .vmem S16x128 .f32 := Memref.whole cc0_scratch1
/-- The pooled rows' buffer. -/
abbrev bufP : Memref sig .tc .vmem S16x128 .f32 := Memref.whole cc0_scratch2

/-- What the launch hands over beside the staging buffers: the three scratch buffers and the generator register, at anything. -/
theorem start_eq (c : Dev nD) :
    (Pipeline.ΦA spec0 c : sProp 𝕄)
      = iprop(iprop((∃ d, owns (c : Thread nD τ) bufY fullShare d) ∗ (∃ d, owns (c : Thread nD τ) bufS fullShare d) ∗ (∃ d, owns (c : Thread nD τ) bufP fullShare d)) ∗ (∃ r, prngReg c r)) := by
  unfold Pipeline.ΦA; rw [scopedRest0_eq]; simp only [bufY, bufS, bufP, owns_whole]; try rfl

/-- What holds before point `n`. -/
def Phi (c : Dev nD) (n : ℕ) : sProp 𝕄 :=
  iprop(iprop((∃ y, ⌜Rows m c n y⌝ ∗ owns (c : Thread nD τ) bufY fullShare y) ∗ (∃ s, ⌜Sums m c n s⌝ ∗ owns (c : Thread nD τ) bufS fullShare s)
    ∗ (∃ p, ⌜Pooled m c n p⌝ ∗ owns (c : Thread nD τ) bufP fullShare p)) ∗ (∃ r, prngReg c r))

/-- The pipeline's proof data: each input's buffer keeps its block, the output's holds `outBlock`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outBlock m c t
  Φ t := Phi m c t.val
  q _ := fullShare
  owed _ := 0

/-- The arrays are as the region finds them. -/
theorem A_eq (c : Dev nD) (w : Fin cfg0.W) : (dats m 0 c).A w = V m c (Pipeline.arrRef spec0 w) := by
  dsimp only [dats]

/-- The invariant before a point. -/
theorem Phi_castSucc (c : Dev nD) (t : Fin cfg0.N) : (dats m 0 c).Φ t.castSucc = Phi m c t.val := by
  dsimp only [dats]; rfl

/-- The invariant after a point. -/
theorem Phi_after (c : Dev nD) (t : Fin cfg0.N) : (dats m 0 c).Φ t.succ = Phi m c (t.val + 1) := by
  dsimp only [dats]; rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = outBlock m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem leaves_0 (c : Dev nD) (t : Fin cfg0.N) : (dats m 0 c).leavesExact 0 t = owns (c : Thread nD τ) (st0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (st1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (st2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (st3 t) fullShare (iblk m c 3 t) := by
  unfold Dat.leavesExact; rw [show cfg0.idle 3 (cfg0.grid.coords t) = false from rfl, after_3]
theorem leaves_4 (c : Dev nD) (t : Fin cfg0.N) : (dats m 0 c).leavesExact 4 t = owns (c : Thread nD τ) (st4 t) fullShare (iblk m c 4 t) := by
  unfold Dat.leavesExact; rw [show cfg0.idle 4 (cfg0.grid.coords t) = false from rfl, after_4]
theorem leaves_5 (c : Dev nD) (t : Fin cfg0.N) : (dats m 0 c).leavesExact 5 t = owns (c : Thread nD τ) (st5 t) fullShare (iblk m c 5 t) := by
  unfold Dat.leavesExact; rw [show cfg0.idle 5 (cfg0.grid.coords t) = false from rfl, after_5]
theorem leaves_6 (c : Dev nD) (t : Fin cfg0.N) : (dats m 0 c).leavesExact 6 t = owns (c : Thread nD τ) (st6 t) fullShare (iblk m c 6 t) := by
  unfold Dat.leavesExact; rw [show cfg0.idle 6 (cfg0.grid.coords t) = false from rfl, after_6]
theorem leaves_7 (c : Dev nD) (t : Fin cfg0.N) : (dats m 0 c).leavesExact 7 t = owns (c : Thread nD τ) (st7 t) fullShare (iblk m c 7 t) := by
  unfold Dat.leavesExact; rw [show cfg0.idle 7 (cfg0.grid.coords t) = false from rfl, after_7]
theorem leaves_8 (c : Dev nD) (t : Fin cfg0.N) : (dats m 0 c).leavesExact 8 t = owns (c : Thread nD τ) (st8 t) fullShare (iblk m c 8 t) := by
  unfold Dat.leavesExact; rw [show cfg0.idle 8 (cfg0.grid.coords t) = false from rfl, after_8]
theorem leaves_9 (c : Dev nD) (t : Fin cfg0.N) : (dats m 0 c).leavesExact 9 t = owns (c : Thread nD τ) (st9 t) fullShare (iblk m c 9 t) := by
  unfold Dat.leavesExact; rw [show cfg0.idle 9 (cfg0.grid.coords t) = false from rfl, after_9]
theorem leaves_10 (c : Dev nD) (t : Fin cfg0.N) : (dats m 0 c).leavesExact 10 t = owns (c : Thread nD τ) (st10 t) fullShare (iblk m c 10 t) := by
  unfold Dat.leavesExact; rw [show cfg0.idle 10 (cfg0.grid.coords t) = false from rfl, after_10]
theorem leaves_11 (c : Dev nD) (t : Fin cfg0.N) : (dats m 0 c).leavesExact 11 t = owns (c : Thread nD τ) (st11 t) fullShare (iblk m c 11 t) := by
  unfold Dat.leavesExact; rw [show cfg0.idle 11 (cfg0.grid.coords t) = false from rfl, after_11]
/-- In the first sweep the output's buffer is handed back as it was. -/
theorem leaves_idle (c : Dev nD) (t : Fin cfg0.N) (h : t.val < 4) :
    (dats m 0 c).leavesExact 12 t = iprop(∃ d, owns (c : Thread nD τ) (st12 t) fullShare ((dats m 0 c).before 12 t d)) :=
  (dats m 0 c).leavesExact_idle 12 t (out_idle t h) (by
    have := (out_flush t).not.mpr (by omega)
    simpa using this)

/-- In the second sweep it holds the output block. -/
theorem leaves_out (c : Dev nD) (t : Fin cfg0.N) (h : 4 ≤ t.val) :
    (dats m 0 c).leavesExact 12 t = owns (c : Thread nD τ) (st12 t) fullShare (outBlock m c t) := by
  unfold Dat.leavesExact; rw [show cfg0.idle 12 (cfg0.grid.coords t) = false from out_live t h, after_12]

/-! ## The body at a point -/

/-- The twelve operands' staging buffers at point `t`, each at its block. -/
abbrev Held (c : Dev nD) (t : Fin cfg0.N) : sProp 𝕄 :=
  Operands c (st0 t) (st1 t) (st2 t) (st3 t) (st4 t) (st5 t) (st6 t) (st7 t) (st8 t) (st9 t) (st10 t) (st11 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d))
    ∗ (∃ d, owns (c : Thread nD τ) (st12 t) fullShare ((dats m 0 c).before 12 t d)))

/-- What it returns. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- What the body is called with, the operands gathered. -/
theorem pre_elim (c : Dev nD) (t : Fin cfg0.N) :
    pre m c t ⊢ iprop(Phi m c t.val ∗ (dats m 0 c).owesAt () t.castSucc ∗ Held m c t
      ∗ (∃ d, owns (c : Thread nD τ) (st12 t) fullShare ((dats m 0 c).before 12 t d))) := by
  unfold pre Held Operands
  rw [Phi_castSucc]
  simp only [before_0, before_1, before_2, before_3, before_4, before_5, before_6, before_7, before_8, before_9, before_10, before_11]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12⟩
  isplitl [HP]; · iexact HP
  isplitl [Ho]; · iexact Ho
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact H12

/-- What it returns, from the operands gathered. -/
theorem post_intro (c : Dev nD) (t : Fin cfg0.N) :
    iprop(Phi m c (t.val + 1) ∗ (dats m 0 c).owesAt () t.castSucc ∗ Held m c t ∗ (dats m 0 c).leavesExact 12 t) ⊢ post m c t := by
  unfold post Held Operands
  rw [Phi_after, show (dats m 0 c).owesAt () t.succ = (dats m 0 c).owesAt () t.castSucc from rfl]
  rw [leaves_0, leaves_1, leaves_2, leaves_3, leaves_4, leaves_5, leaves_6, leaves_7, leaves_8, leaves_9, leaves_10, leaves_11]
  iintro ⟨HP, Ho, ⟨H0, H1, H2, H3, H4, H5, H6, H7, H8, H9, H10, H11⟩, H12⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- What point 4 computes from the sums is `pooled`. -/
theorem pool_eq (c : Dev nD) (t : Fin cfg0.N) (h : t.val = 4) {s : Vec F S16x128 .f32} (hs : Sums m c t.val s) :
    k0_pay5 s (iblk m c 3 t) (iblk m c 4 t) (iblk m c 5 t) (iblk m c 6 t) (iblk m c 7 t) = pooled m c := by
  obtain rfl : t = pt4 := Fin.ext h
  rw [hs (by decide)]
  rfl

set_option maxHeartbeats 4000000 in
/-- The body at point 0. -/
theorem body_first (c : Dev nD) (t : Fin cfg0.N) (h : t.val = 0) :
    pre m c t ⊢ wp frame (wpE (defs₀ (F := F)) Variants.none c none) Set.univ (bodyAt0 t) (fun _ => post m c t) := by
  refine (pre_elim m c t).trans ?_
  unfold Phi bodyAt0
  iintro ⟨⟨⟨⟨%y, %hy, HY⟩, ⟨%s, %hs, HS⟩, ⟨%p, %hp, HP⟩⟩, Hg⟩, Ho, HH, ⟨%d, HO⟩⟩
  iapply (run_first c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((first_sweep t).mpr (by omega)) ((block_zero t).mpr (by omega)) (fun e => absurd ((second_sweep t).mp e) (by omega)) _ y Set.univ _)
  isplitl [HH]; · iexact HH
  isplitl [HO]; · iexact HO
  isplitl [HY]; · iexact HY
  isplitl [HS]; · iexists _; iexact HS
  isplitl [HP]; · iexists _; iexact HP
  iintro ⟨HH, HO, HY, HS, ⟨%p', HP⟩⟩
  iapply (post_intro m c t)
  isplitl [HY HS HP Hg]
  · unfold Phi
    isplitl [HY HS HP]
    · isplitl [HY]
      · iexists _; isplitr; swap; · iexact HY
        ipureintro; exact hy.step m c t (by omega)
      isplitl [HS]
      · iexists _; isplitr; swap; · iexact HS
        ipureintro; exact Sums.first m c t h
      iexists _; isplitr; swap; · iexact HP
      ipureintro; exact fun h' => absurd h' (by omega)
    iexact Hg
  isplitl [Ho]; · iexact Ho
  isplitl [HH]; · iexact HH
  rw [leaves_idle m c t (by omega)]; iexists d; iexact HO

set_option maxHeartbeats 4000000 in
/-- The body at points 1, 2 and 3. -/
theorem body_sum (c : Dev nD) (t : Fin cfg0.N) (h : 0 < t.val) (h' : t.val < 4) :
    pre m c t ⊢ wp frame (wpE (defs₀ (F := F)) Variants.none c none) Set.univ (bodyAt0 t) (fun _ => post m c t) := by
  refine (pre_elim m c t).trans ?_
  unfold Phi bodyAt0
  iintro ⟨⟨⟨⟨%y, %hy, HY⟩, ⟨%s, %hs, HS⟩, ⟨%p, %hp, HP⟩⟩, Hg⟩, Ho, HH, ⟨%d, HO⟩⟩
  iapply (run_sum c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((first_sweep t).mpr h') (fun e => absurd ((block_zero t).mp e) (by omega)) (fun e => absurd ((second_sweep t).mp e) (by omega)) _ y s Set.univ _)
  isplitl [HH]; · iexact HH
  isplitl [HO]; · iexact HO
  isplitl [HY]; · iexact HY
  isplitl [HS]; · iexact HS
  isplitl [HP]; · iexists _; iexact HP
  iintro ⟨HH, HO, HY, HS, ⟨%p', HP⟩⟩
  iapply (post_intro m c t)
  isplitl [HY HS HP Hg]
  · unfold Phi
    isplitl [HY HS HP]
    · isplitl [HY]
      · iexists _; isplitr; swap; · iexact HY
        ipureintro; exact hy.step m c t (by omega)
      isplitl [HS]
      · iexists _; isplitr; swap; · iexact HS
        ipureintro; exact hs.step m c t h h'
      iexists _; isplitr; swap; · iexact HP
      ipureintro; exact fun h' => absurd h' (by omega)
    iexact Hg
  isplitl [Ho]; · iexact Ho
  isplitl [HH]; · iexact HH
  rw [leaves_idle m c t h']; iexists d; iexact HO

set_option maxHeartbeats 4000000 in
/-- The body at point 4. -/
theorem body_pool (c : Dev nD) (t : Fin cfg0.N) (h : t.val = 4) :
    pre m c t ⊢ wp frame (wpE (defs₀ (F := F)) Variants.none c none) Set.univ (bodyAt0 t) (fun _ => post m c t) := by
  refine (pre_elim m c t).trans ?_
  unfold Phi bodyAt0
  iintro ⟨⟨⟨⟨%y, %hy, HY⟩, ⟨%s, %hs, HS⟩, ⟨%p, %hp, HP⟩⟩, Hg⟩, Ho, HH, ⟨%d, HO⟩⟩
  iapply (run_pool c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (fun e => absurd ((first_sweep t).mp e) (by omega)) ((block_zero t).mpr (by omega)) ((second_sweep t).mpr (by omega)) y s Set.univ _)
  isplitl [HH]; · iexact HH
  isplitl [HO]; · iexists _; iexact HO
  isplitl [HY]; · iexact HY
  isplitl [HS]; · iexact HS
  isplitl [HP]; · iexists _; iexact HP
  iintro ⟨HH, HO, HY, HS, HP⟩
  iapply (post_intro m c t)
  isplitl [HY HS HP Hg]
  · unfold Phi
    isplitl [HY HS HP]
    · isplitl [HY]
      · iexists _; isplitr; swap; · iexact HY
        ipureintro; exact hy.keep m c t.val (by omega)
      isplitl [HS]
      · iexists _; isplitr; swap; · iexact HS
        ipureintro; exact hs.keep m c t.val (by omega)
      iexists _; isplitr; swap; · iexact HP
      ipureintro; exact fun _ => pool_eq m c t h hs
    iexact Hg
  isplitl [Ho]; · iexact Ho
  isplitl [HH]; · iexact HH
  rw [leaves_out m c t (by omega)]
  unfold outBlock
  rw [← hy.load m c t (by omega) (k0_off2_inb (grid0.coords t) ((second_sweep t).mpr (by omega)))]
  rw [← pool_eq m c t h hs]
  iexact HO

set_option maxHeartbeats 4000000 in
/-- The body at points 5, 6 and 7. -/
theorem body_out (c : Dev nD) (t : Fin cfg0.N) (h : 4 < t.val) :
    pre m c t ⊢ wp frame (wpE (defs₀ (F := F)) Variants.none c none) Set.univ (bodyAt0 t) (fun _ => post m c t) := by
  refine (pre_elim m c t).trans ?_
  unfold Phi bodyAt0
  iintro ⟨⟨⟨⟨%y, %hy, HY⟩, ⟨%s, %hs, HS⟩, ⟨%p, %hp, HP⟩⟩, Hg⟩, Ho, HH, ⟨%d, HO⟩⟩
  iapply (run_out c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (fun e => absurd ((first_sweep t).mp e) (by omega)) (fun e => absurd ((block_zero t).mp e) (by have := lt_eight t; omega)) ((second_sweep t).mpr (by omega)) y s p Set.univ _)
  isplitl [HH]; · iexact HH
  isplitl [HO]; · iexists _; iexact HO
  isplitl [HY]; · iexact HY
  isplitl [HS]; · iexact HS
  isplitl [HP]; · iexact HP
  iintro ⟨HH, HO, HY, HS, HP⟩
  iapply (post_intro m c t)
  isplitl [HY HS HP Hg]
  · unfold Phi
    isplitl [HY HS HP]
    · isplitl [HY]
      · iexists _; isplitr; swap; · iexact HY
        ipureintro; exact hy.keep m c t.val (by omega)
      isplitl [HS]
      · iexists _; isplitr; swap; · iexact HS
        ipureintro; exact hs.keep m c t.val (by omega)
      iexists _; isplitr; swap; · iexact HP
      ipureintro; exact fun _ => hp h
    iexact Hg
  isplitl [Ho]; · iexact Ho
  isplitl [HH]; · iexact HH
  rw [leaves_out m c t (by omega)]
  unfold outBlock
  rw [← hy.load m c t (by omega) (k0_off2_inb (grid0.coords t) ((second_sweep t).mpr (by omega)))]
  rw [← hp h]
  iexact HO

/-- The body at any point. -/
theorem body_any (c : Dev nD) (t : Fin cfg0.N) :
    pre m c t ⊢ wp frame (wpE (defs₀ (F := F)) Variants.none c none) Set.univ (bodyAt0 t) (fun _ => post m c t) := by
  rcases Nat.lt_or_ge t.val 4 with h | h
  · rcases Nat.eq_zero_or_pos t.val with h0 | h0
    · exact body_first m c t h0
    · exact body_sum m c t h0 h
  · rcases Nat.eq_or_lt_of_le h with h4 | h4
    · exact body_pool m c t h4.symm
    · exact body_out m c t h4

/-! ## The launch -/

/-- The body table's row at point `t` is the body there. -/
theorem row_eq (t : Fin cfg0.N) : defs₀ (F := F) .tc cfg0.body (cfg0.bodyArgs t (cfg0.slots t)) = bodyAt0 t := by
  unfold defs₀; rw [Defs.onTc_tc]

/-- The pipeline's obligation on the body. -/
theorem obligation (c : Dev nD) : BodyObligation (dats (F := F) m 0 c) (defs₀ (F := F)) Variants.none () Set.univ := fun t => by
  rw [bigSep_W0, bigSep_W0, row_eq]
  exact triple_restated (body_any m c t) rfl .rfl fun _ => .rfl

/-- What the launch hands over is the invariant before the first point. -/
theorem enter (c : Dev nD) : Pipeline.ΦA spec0 c ⊢ (dats m 0 c).Φ 0 := by
  rw [show (dats m 0 c).Φ 0 = Phi m c 0 from rfl, start_eq]
  unfold Phi
  iintro ⟨⟨⟨%y, HY⟩, ⟨%s, HS⟩, ⟨%p, HP⟩⟩, Hg⟩
  isplitl [HY HS HP]
  · isplitl [HY]
    · iexists y; isplitr; swap; · iexact HY
      ipureintro; exact fun _ h => absurd h (Nat.not_lt_zero _)
    isplitl [HS]
    · iexists s; isplitr; swap; · iexact HS
      ipureintro; exact fun h => absurd h (Nat.not_lt_zero _)
    iexists p; isplitr; swap; · iexact HP
    ipureintro; exact fun h => absurd h (Nat.not_lt_zero _)
  iexact Hg

/-- After the last point the buffers' contents are forgotten. -/
theorem leave (c : Dev nD) : (dats m 0 c).Φ (Fin.last cfg0.N) ⊢ Pipeline.ΦA spec0 c := by
  rw [show (dats m 0 c).Φ (Fin.last cfg0.N) = Phi m c cfg0.N from rfl, start_eq]
  unfold Phi
  iintro ⟨⟨⟨%y, -, HY⟩, ⟨%s, -, HS⟩, ⟨%p, -, HP⟩⟩, Hg⟩
  isplitl [HY HS HP]
  · isplitl [HY]
    · iexists y; iexact HY
    isplitl [HS]
    · iexists s; iexact HS
    iexists p; iexact HP
  iexact Hg

set_option backward.isDefEq.respectTransparency.types false in
/-- The run: every execution ends with the pipeline's arrays as the proof data say and every counter at zero. -/
theorem run_quiet : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

/-- The same without the counters. -/
theorem run_arrays : θ_run defs (onTc (τ := τ) (main (F := F))) (s₀ m ρ) (Pipeline.FramePost cfgs (dats m) 0 (V m)) :=
  (θ_run defs _ _).mono (fun _ h => h.1) (run_quiet m ρ)

/-- The arguments end unchanged. -/
theorem run_args : θ_run defs (onTc (τ := τ) (main (F := F))) ⟨m, fun _ => 0, ρ⟩ (fun r => ∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8)) :=
  frame_of m ρ (dats m) (A_eq m) (run_arrays m ρ)

/-- The arguments end unchanged and every counter is at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8))
      ∧ r.2.sem = fun _ => 0) :=
  θ_run_and (run_args m ρ) ((θ_run defs _ _).mono (fun _ h => h.2) (run_quiet m ρ))

/-! ## The output array -/

/-- Point `4 + k`, which writes block `k` of the output. -/
def pt' (k : Fin 4) : Fin cfg0.N := ⟨4 + k.val, by have := k.isLt; have e : cfg0.N = 8 := N_0; omega⟩

/-- The output array the run leaves: row `r` is row `r % 8192` of block `r / 8192`. -/
def result (c : Dev nD) : Vec F S32768x128 .f32 := fun i =>
  outBlock m c (pt' ⟨(i 0).val / 8192, by have h : (i 0).val < 32768 := (i 0).isLt; omega⟩)
    (fun a => match a with
      | ⟨0, _⟩ => ⟨(i 0).val % 8192, Nat.mod_lt _ (by decide)⟩
      | ⟨1, _⟩ => i 1)

/-- The output's block at each flushing point starts at row `8192 * (t % 4)`. -/
theorem out_index (t : Fin cfg0.N) (h : 4 ≤ t.val) : win0_12.index t (0 : Fin 2) = t.val % 4 ∧ win0_12.index t (1 : Fin 2) = 0 := by
  have hd : ∀ t : Fin grid0.N, 4 ≤ t.val → win0_12.index t (0 : Fin 2) = t.val % 4 ∧ win0_12.index t (1 : Fin 2) = 0 := by decide +kernel
  exact hd t h

/-- The output array after the run. -/
theorem result_eq (c : Dev nD) : (dats m 0 c).arrAt 12 cfg0.N = result m c := by
  refine (dats m 0 c).arrAt_eq_of_covers 12 _ (by decide +kernel) fun t hf y => ?_
  have ht := (out_flush t).mp hf
  have h8 := lt_eight t
  blk_simp
  rw [after_12]
  obtain ⟨i0, i1⟩ := out_index t ht
  have e0 : ((win0_12.blk t).view.emb y (0 : Fin 2)).val = 8192 * (t.val % 4) + (y (0 : Fin 2)).val := by
    blk_simp; rw [i0]; omega
  have e1 : ((win0_12.blk t).view.emb y (1 : Fin 2)).val = (y (1 : Fin 2)).val := by
    blk_simp; rw [i1]; omega
  have y0 : (y (0 : Fin 2)).val < 8192 := (y (0 : Fin 2)).isLt
  unfold result
  have hp : ∀ h, pt' ⟨((win0_12.blk t).view.emb y (0 : Fin 2)).val / 8192, h⟩ = t := fun h => Fin.ext (by
    show 4 + ((win0_12.blk t).view.emb y (0 : Fin 2)).val / 8192 = t.val
    rw [e0]; omega)
  rw [hp]
  congr 1
  funext a
  apply Fin.ext
  match a with
  | ⟨0, _⟩ =>
    show (y (0 : Fin 2)).val = ((win0_12.blk t).view.emb y (0 : Fin 2)).val % 8192
    rw [e0]; omega
  | ⟨1, _⟩ => exact e1.symm

/-- The run with the output: the array `main_v0` ends at `result`, the arguments unchanged. -/
theorem run_value : θ_run defs (onTc (τ := τ) (main (F := F))) ⟨m, fun _ => 0, ρ⟩ (fun r => ∀ c : Dev nD,
      r.2.mem ((c.tc : Thread nD τ).loc main_v0) = result m c) :=
  (θ_run defs _ _).mono (fun _ h c => ((h c).1 12).trans (result_eq m c)) (run_arrays m ρ)

end Cert.KernelIdeal.Body

end
-- ==== Proof.Seg.lean ====
/- The segment of a row, as the reference computes it: the segment lengths, their running sums (the segments' first rows),
   the number of segments that start at or before a row, and from it the segment the row lies in. -/
module

public import proofs.«01_k».proof.Proof.Gen.ReferenceIdeal.Run
public import Idealize.ShloMosaic.Lib.Routing.Ops
public import Idealize.ShloMosaic.Lib.Routing.OpsSet
public import Idealize.ShloMosaic.Lib.Routing.OpsPair
public import Idealize.ShloMosaic.Lib.Routing.OpsSearch
public import Idealize.ShloMosaic.Lib.Routing.Count
public import Idealize.ShloMosaic.Lib.Pointwise

@[expose] public section

noncomputable section

namespace Cert.Segment

open Idealize.ShloMosaic Idealize.ShloMosaic.TcCoe
open Cert.ReferenceIdeal Cert.ReferenceIdeal.Gen Cert.ReferenceIdeal.Value

/-- The end offsets `o` hold the numbers `E 1 < … < E 16 = 32768`, and `E 0 = 0 < E 1`: segment `b` is the rows from `E b` up to `E (b + 1)`. -/
structure Ends (o : IVec S16 32) (E : ℕ → ℕ) : Prop where
  zero : E 0 = 0
  word : ∀ b : Fin 16, o (ix1 b) = BitVec.ofNat 32 (E (b.val + 1))
  step : ∀ b < 16, E b < E (b + 1)
  last : E 16 = 32768

/-- The offsets do not decrease. -/
theorem Ends.mono {o : IVec S16 32} {E : ℕ → ℕ} (h : Ends o E) (a b : ℕ) (hab : a ≤ b) (hb : b ≤ 16) : E a ≤ E b := by
  induction b, hab using Nat.le_induction with
  | base => exact le_rfl
  | succ n hn ih => exact (ih (by omega)).trans (h.step n (by omega)).le

/-- A segment starts before the last row's end. -/
theorem Ends.lt {o : IVec S16 32} {E : ℕ → ℕ} (h : Ends o E) (b : ℕ) (hb : b < 16) : E b < 32768 := by
  have h1 := h.step b hb
  have h2 := h.mono (b + 1) 16 (by omega) le_rfl
  have h3 := h.last
  omega

/-- The segment of row `i`: one less than the number of segments that start at or before it. -/
def seg (E : ℕ → ℕ) (i : ℕ) : ℕ := Nat.count (fun b => E b ≤ i) 16 - 1

/-- `r` starts at or before row `i` exactly when `r` is at most the row's segment. -/
theorem Ends.start_le {o : IVec S16 32} {E : ℕ → ℕ} (h : Ends o E) (i r : ℕ) (hr : r < 16) : E r ≤ i ↔ r ≤ seg E i := by
  have key : ∀ r < 16, (E r ≤ i ↔ r < Nat.count (fun b => E b ≤ i) 16) := fun r hr =>
    Routing.lt_count_iff (N := 16) (Q := fun b => E b ≤ i) (fun a b hab hb hle => (h.mono a b hab hb.le).trans hle) hr
  have h0 : 0 < Nat.count (fun b => E b ≤ i) 16 := (key 0 (by omega)).1 (by rw [h.zero]; omega)
  rw [key r hr]
  unfold seg
  omega

/-- The segment is one of the sixteen. -/
theorem seg_lt (E : ℕ → ℕ) (i : ℕ) : seg E i < 16 := by
  have := Nat.count_le (p := fun b => E b ≤ i) (n := 16)
  unfold seg
  omega

/-- Row `i` lies in segment `b` exactly when it is between the segment's first row and its end. -/
theorem Ends.seg_eq {o : IVec S16 32} {E : ℕ → ℕ} (h : Ends o E) (i b : ℕ) (hi : i < 32768) (hb : b < 16) :
    seg E i = b ↔ E b ≤ i ∧ i < E (b + 1) := by
  have h1 := h.start_le i b hb
  have hl := seg_lt E i
  rcases Nat.lt_or_ge (b + 1) 16 with hb' | hb'
  · have h2 := h.start_le i (b + 1) hb'
    omega
  · obtain rfl : b = 15 := by omega
    have : E (15 + 1) = 32768 := h.last
    omega

/-- The library's two spellings of a vector's index are one. -/
theorem ix1_eq {n : ℕ} (i : Fin n) : ValueIdx.ix1 i = ix1 i := by
  funext a
  match a with
  | ⟨0, _⟩ => rfl

/-- The library's two spellings of a matrix's index are one. -/
theorem ix2_eq {n k : ℕ} (i : Fin n) (j : Fin k) : ValueIdx.ix2 i j = ix2 i j := by
  funext a
  match a with
  | ⟨0, _⟩ => rfl
  | ⟨1, _⟩ => rfl

variable (V0 : Valuation τ sig (Elt Ideal)) {E : ℕ → ℕ}

/-- The offsets array as the reference holds it. -/
abbrev offsets : IVec S16 32 := V0 (Proc.devRef .tc main_arg2)

/-- The segment lengths. -/
theorem length_at (h : Ends (offsets V0) E) (b : Fin 16) : res_main_v4 V0 (ix1 b) = BitVec.ofNat 32 (E (b.val + 1) - E b.val) := by
  have word : ∀ b : Fin 16, V0 (Proc.devRef .tc main_arg2) (ix1 b) = BitVec.ofNat 32 (E (b.val + 1)) := h.word
  pointwise [res_main_v4]
  simp only [word]
  split
  · have e : b.val = 0 := by omega
    rw [e, h.zero]
    rfl
  · have hs := h.step b.val b.isLt
    rw [show 1 + (b.val - 1) + 1 = b.val + 1 by omega, show b.val - 1 + 1 = b.val by omega,
      show E (b.val + 1) = (E (b.val + 1) - E b.val) + E b.val by omega, BitVec.ofNat_add, Nat.add_sub_cancel]
    exact BitVec.add_sub_cancel _ _

/-- The lengths moved one place on, the first set to zero. -/
theorem rolled_at (h : Ends (offsets V0) E) (b : Fin 16) :
    (Host.scatter scatter_S16_S1_S__n_0_0_0 (fun _ b => b) (concatenate S16 0 [⟨S1, (extractStridedSlice S1 ![15] (res_main_v4 V0) slices_S16_S1_15)⟩, ⟨S15, (extractStridedSlice S15 ![0] (res_main_v4 V0) slices_S16_S15_0)⟩] concatenates_S1_S15_S16_d0) (broadcastInDim S1 ![] bcast_S_S1 (constantI S_ 32 0#32)) (constantI S_ 32 0#32)) (ix1 b)
      = BitVec.ofNat 32 (if b.val = 0 then 0 else E b.val - E (b.val - 1)) := by
  have lands : scatter_S16_S1_S__n_0_0_0.start ix0 (broadcastInDim S1 ![] bcast_S_S1 (constantI S_ 32 0#32)) 0
      + (scatter_S16_S1_S__n_0_0_0.window ix0 0 : Int) = ((0 : ℕ) : Int) := by decide +kernel
  by_cases hb : b.val = 0
  · rw [if_pos hb]
    refine Routing.scatter_set_hit _ _ _ _ _ _ (fun _ _ => rfl) ix0 ((Routing.resultIdx?_ix1 _ _ _ _).2 ?_)
    rw [hb]
    exact lands
  · rw [if_neg hb]
    refine (Routing.scatter_set_miss _ _ _ _ _ fun k hk => hb ?_).trans ?_
    · have := (Routing.resultIdx?_ix1 _ _ _ _).1 hk
      obtain rfl : k = ix0 := funext fun a => a.elim0
      exact_mod_cast (this.symm.trans lands)
    · pointwise
      rw [dif_neg (by omega), length_at V0 h]
      show BitVec.ofNat 32 (E (b.val - 1 + 1) - E (b.val - 1)) = _
      rw [show b.val - 1 + 1 = b.val by omega]

/-- A segment's first row. -/
theorem start_at (h : Ends (offsets V0) E) (b : Fin 16) : res_main_v9 V0 (ix1 b) = BitVec.ofNat 32 (E b.val) := by
  unfold res_main_v9
  refine (congrArg _ (ix1_eq b).symm).trans ((Routing.cumsum1 (N := 16) (Nm1 := 15) rfl _ (fun b => if b = 0 then 0 else E b - E (b - 1)) (fun b => (congrArg _ (ix1_eq b)).trans (rolled_at V0 h b)) _ rfl _ _ b).trans ?_)
  congr 1
  have key : ∀ n ≤ 15, ((List.range (n + 1)).map fun b => if b = 0 then 0 else E b - E (b - 1)).sum = E n := by
    intro n hn
    induction n with
    | zero => simpa using h.zero.symm
    | succ n ih =>
      have := h.step n (by omega)
      rw [List.range_succ, List.map_append, List.sum_append, ih (by omega)]
      simp
      omega
  exact key b.val (by omega)

/-- How many segments start at row `i`. -/
theorem starts_at (h : Ends (offsets V0) E) (i : Fin 32768) :
    (Host.scatter scatter_S32768_S16x1_S16_n_0_0_1 IntOp.addi (broadcastInDim S32768 ![] bcast_S_S32768 (constantI S_ 32 0#32)) (broadcastInDim S16x1 ![0] bcast_S16_S16x1_0 (select (cmpi .slt (res_main_v9 V0) (broadcastInDim S16 ![] bcast_S_S16 (constantI S_ 32 0#32))) (addi (res_main_v9 V0) (broadcastInDim S16 ![] bcast_S_S16 (constantI S_ 32 32768#32))) (res_main_v9 V0))) (broadcastInDim S16 ![] bcast_S_S16 (constantI S_ 32 1#32))) (ix1 i)
      = BitVec.ofNat 32 (Nat.count (fun b => E b = i.val) 16) := by
  have hwrap : ∀ b : Fin 16, Scalar.select (IntOp.cmpi .slt (res_main_v9 V0 (ix1 b)) 0#32) (IntOp.addi (res_main_v9 V0 (ix1 b)) 32768#32) (res_main_v9 V0 (ix1 b))
      = BitVec.ofNat 32 (E b.val) := by
    intro b
    have hb := h.lt b.val b.isLt
    rw [start_at V0 h b]
    exact Routing.wrap_of_lt _ _ (by rw [BitVec.toNat_ofNat]; omega)
  rw [Routing.scatter_at]
  have hlands : ∀ n : Fin S16.numel, scatter_S32768_S16x1_S16_n_0_0_1.resultIdx? (S16.rowMajor.symm n) (broadcastInDim S16x1 ![0] bcast_S16_S16x1_0 (select (cmpi .slt (res_main_v9 V0) (broadcastInDim S16 ![] bcast_S_S16 (constantI S_ 32 0#32))) (addi (res_main_v9 V0) (broadcastInDim S16 ![] bcast_S_S16 (constantI S_ 32 32768#32))) (res_main_v9 V0)))
      = some (ix1 i) ↔ E n.val = i.val := by
    intro n
    have hn : n.val < 16 := n.isLt
    have e := Routing.symm1 (N := 16) n
    rw [show S16.rowMajor.symm n = ValueIdx.ix1 (⟨n.val, hn⟩ : Fin 16) from e]
    rw [← ix1_eq, Routing.resultIdx?_ix1]
    generalize hq : (broadcastInDim S16x1 ![0] bcast_S16_S16x1_0 (select (cmpi .slt (res_main_v9 V0) (broadcastInDim S16 ![] bcast_S_S16 (constantI S_ 32 0#32))) (addi (res_main_v9 V0) (broadcastInDim S16 ![] bcast_S_S16 (constantI S_ 32 32768#32))) (res_main_v9 V0))) = idx
    have hidx : idx (ix2 (⟨n.val, hn⟩ : Fin 16) (0 : Fin 1)) = BitVec.ofNat 32 (E n.val) := by
      rw [← hq]
      pointwise
      exact hwrap ⟨n.val, hn⟩
    have hs : scatter_S32768_S16x1_S16_n_0_0_1.start (ValueIdx.ix1 (⟨n.val, hn⟩ : Fin 16)) idx 0 = (idx (ix2 (⟨n.val, hn⟩ : Fin 16) (0 : Fin 1))).toInt := by
      refine congrArg (fun z => (idx z).toInt) (funext fun c => ?_)
      match c with
      | ⟨0, _⟩ => rfl
      | ⟨1, _⟩ => rfl
    have hw : scatter_S32768_S16x1_S16_n_0_0_1.window (ValueIdx.ix1 (⟨n.val, hn⟩ : Fin 16)) 0 = 0 := rfl
    have hE := h.lt n.val hn
    rw [hs, hw, hidx, StableHlo.Predicate.toInt_ofNat_small _ (by omega)]
    omega
  have hcount : ∀ (l : List (Fin S16.numel)) (a : ℕ), l.foldl (fun a n => if scatter_S32768_S16x1_S16_n_0_0_1.resultIdx? (S16.rowMajor.symm n) (broadcastInDim S16x1 ![0] bcast_S16_S16x1_0 (select (cmpi .slt (res_main_v9 V0) (broadcastInDim S16 ![] bcast_S_S16 (constantI S_ 32 0#32))) (addi (res_main_v9 V0) (broadcastInDim S16 ![] bcast_S_S16 (constantI S_ 32 32768#32))) (res_main_v9 V0)))
      = some (ix1 i) then IntOp.addi a (broadcastInDim S16 ![] bcast_S_S16 (constantI S_ 32 1#32) (S16.rowMajor.symm n)) else a) (BitVec.ofNat 32 a)
      = BitVec.ofNat 32 (a + l.countP fun n => decide (E n.val = i.val)) := by
    intro l
    induction l with
    | nil => intro a; rfl
    | cons n l ih =>
      intro a
      rw [List.foldl_cons, List.countP_cons]
      by_cases e : E n.val = i.val
      · rw [if_pos ((hlands n).2 e)]
        rw [show IntOp.addi (BitVec.ofNat 32 a) (broadcastInDim S16 ![] bcast_S_S16 (constantI S_ 32 1#32) (S16.rowMajor.symm n)) = BitVec.ofNat 32 (a + 1)
          from (BitVec.ofNat_add a 1).symm]
        refine (ih (a + 1)).trans ?_
        rw [if_pos (by simpa using e)]
        congr 1
        omega
      · rw [if_neg fun q => e ((hlands n).1 q)]
        refine (ih a).trans ?_
        rw [if_neg (by simpa using e)]
        rfl
  refine (hcount _ 0).trans ?_
  rw [Nat.zero_add, Routing.countP_finRange _ (fun b => E b = i.val)]
  rfl

/-- A row's segment number, before it is wrapped. -/
theorem raw_at (h : Ends (offsets V0) E) (i : Fin 32768) : res_main_v21 V0 (ix1 i) = BitVec.ofNat 32 (seg E i.val) := by
  unfold res_main_v21
  refine (congrArg (fun z : BitVec 32 => IntOp.subi z 1#32) ((congrArg _ (ix1_eq i).symm).trans (Routing.cumsum1 (N := 32768) (Nm1 := 32767) rfl _ (fun y => Nat.count (fun b => E b = y) 16) (fun b => (congrArg _ (ix1_eq b)).trans (starts_at V0 h b)) _ rfl _ _ i))).trans ?_
  rw [Routing.sum_count_eq]
  unfold seg
  have h0 : 0 < Nat.count (fun b => E b ≤ i.val) 16 := Nat.pos_of_ne_zero fun e => by
    have := (Nat.count_monotone (fun b => E b ≤ i.val)) (show 1 ≤ 16 by omega)
    rw [e, Nat.count_succ, if_pos (by rw [h.zero]; omega)] at this
    omega
  have h1 : Nat.count (fun b => E b ≤ i.val) 16 ≤ 16 := Nat.count_le _
  generalize Nat.count (fun b => E b ≤ i.val) 16 = n at h0 h1
  obtain ⟨n, rfl⟩ : ∃ k, n = k + 1 := ⟨n - 1, by omega⟩
  show BitVec.ofNat 32 (n + 1) - 1#32 = BitVec.ofNat 32 n
  rw [BitVec.ofNat_add]
  exact BitVec.add_sub_cancel _ _

/-- The segment number as a column, wrapped: it is not negative, so the wrap leaves it. -/
theorem wrapped_at (h : Ends (offsets V0) E) (i : Fin 32768) : res_main_call3_v5 V0 (ix2 i 0) = BitVec.ofNat 32 (seg E i.val) := by
  pointwise [res_main_call3_v5, raw_at V0 h]
  have := seg_lt E i.val
  exact Routing.wrap_of_lt _ _ (by rw [BitVec.toNat_ofNat]; omega)

/-- The segment number of a row, as the reference uses it. -/
theorem seg_at (h : Ends (offsets V0) E) (i : Fin 32768) : res_main_v22 V0 (ix1 i) = BitVec.ofNat 32 (seg E i.val) := by
  have hg := Routing.gather_take1 (N := 16) (n := 32768) gather_S16_S32768x1_S32768_n_0_n_n_0_1_1 rfl rfl rfl rfl (iotaInDim S16 32 0) (res_main_call3_v5 V0) i
    ⟨seg E i.val, seg_lt E i.val⟩ ((congrArg _ (ix2_eq i 0)).trans (wrapped_at V0 h i)) (by decide)
  have hall : ∀ n < 16, IntOp.andi (IntOp.cmpi .sge (BitVec.ofNat 32 n) 0#32) (IntOp.cmpi .sle (BitVec.ofNat 32 n) 15#32) = 1#1 := by decide
  have hfold : ∀ s : Finset S32768x1.Idx, Finset.fold IntOp.andi (1#1)
      (fun x => IntOp.andi (IntOp.cmpi .sge (res_main_call3_v5 V0 x) 0#32) (IntOp.cmpi .sle (res_main_call3_v5 V0 x) 15#32)) s = 1#1 := by
    intro s
    induction s using Finset.induction_on with
    | empty => rfl
    | insert a s ha ih =>
      rw [Finset.fold_insert ha, ih]
      have e : a = ix2 (a 0) (0 : Fin 1) := by
        funext c
        match c with
        | ⟨0, _⟩ => rfl
        | ⟨1, _⟩ => exact Subsingleton.elim (α := Fin 1) _ _
      have := (congrArg (res_main_call3_v5 V0) e).trans (wrapped_at V0 h (a 0))
      rw [this, hall _ (seg_lt E _)]
      rfl
  pointwise [res_main_v22]
  rw [hfold, ← ix1_eq, hg]
  rfl

end Cert.Segment
-- ==== Proof.Model.lean ====
/- The layer over extended reals: the mean of each segment's rows, the network applied to it, the hidden rows and their
   normalization; and that the kernel's way of centring (through the matrix `I - 1/128`, before the sums) gives the same rows.
   The rows, the means and the pooled rows are reals; `W1` and `b1` may be infinite. -/
module

public import proofs.«01_k».proof.Proof.Seg
public import Idealize.ShloMosaic.Lib.IdealHost

@[expose] public section

noncomputable section

namespace Cert.Model

open Idealize.ShloMosaic
open scoped BigOperators

/-! ## Extended reals that are real -/

/-- A sum of reals, as an extended real, is the sum of the extended reals. -/
theorem coe_sum {ι : Type} [Fintype ι] (f : ι → ℝ) : ((∑ i, f i : ℝ) : EReal) = ∑ i, (f i : EReal) := by
  classical
  have key : ∀ s : Finset ι, ((∑ i ∈ s, f i : ℝ) : EReal) = ∑ i ∈ s, (f i : EReal) := by
    intro s
    induction s using Finset.induction_on with
    | empty => simp
    | insert a s ha ih => rw [Finset.sum_insert ha, Finset.sum_insert ha, EReal.coe_add, ih]
  exact key _

/-- The greater of two reals, as an extended real. -/
theorem coe_max (a b : ℝ) : ((max a b : ℝ) : EReal) = max (a : EReal) (b : EReal) :=
  EReal.coe_strictMono.monotone.map_max

/-- The quotient of two reals, the second not zero. -/
theorem div_real (a : ℝ) {b : ℝ} (hb : b ≠ 0) : Ideal.div (a : EReal) (b : EReal) = ((a / b : ℝ) : EReal) := by
  rw [Ideal.div_coe hb, ← EReal.coe_mul, mul_one_div]

/-- The square root of a real that is not negative. -/
theorem sqrt_real {r : ℝ} (h : 0 ≤ r) : Ideal.sqrt (r : EReal) = (Real.sqrt r : EReal) := by
  show (if r < 0 then (⊥ : EReal) else (Real.sqrt r : EReal)) = _
  rw [if_neg (not_lt.2 h)]

/-- The reciprocal square root of a positive real. -/
theorem rsqrt_real {r : ℝ} (h : 0 < r) : Ideal.rsqrt (r : EReal) = ((Real.sqrt r)⁻¹ : ℝ) := by
  show (if r < 0 then (⊥ : EReal) else if r = 0 then ⊤ else ((Real.sqrt r)⁻¹ : ℝ)) = _
  rw [if_neg (not_lt.2 h.le), if_neg h.ne']

/-- The number added under the square root. -/
def eps : ℝ := (2 ^ 23 + 2606508) * (2 : ℝ) ^ (-40 : Int)

theorem eps_pos : 0 < eps := by unfold eps; positivity

/-- It is what the pattern `0x3727C5AC` means. -/
theorem eps_word : Ideal.ofBits .f32 0x3727C5AC#32 = (eps : EReal) := by
  simp [Ideal.ofBits, Ideal.ieee, eps, -EReal.coe_mul]; norm_num

/-- The pattern `0x43000000` means 128. -/
theorem width_word : Ideal.ofBits .f32 0x43000000#32 = ((128 : ℝ) : EReal) := by
  simp [Ideal.ofBits, Ideal.ieee, -EReal.coe_mul]; norm_num

/-- The pattern `0x3C000000` means one 128th. -/
theorem part_word : Ideal.ofBits .f32 0x3C000000#32 = ((1 / 128 : ℝ) : EReal) := by
  simp [Ideal.ofBits, Ideal.ieee, -EReal.coe_mul]; norm_num

/-! ## Extended reals that are not real -/

/-- An infinity. -/
def Wild (a : EReal) : Prop := a = ⊤ ∨ a = ⊥

/-- What is not an infinity is the real it rounds to. -/
theorem real_of_not_wild {a : EReal} (h : ¬ Wild a) : a = (a.toReal : EReal) :=
  (EReal.coe_toReal (fun e => h (.inl e)) (fun e => h (.inr e))).symm

/-- An infinity plus anything is an infinity. -/
theorem Wild.add {a : EReal} (h : Wild a) (b : EReal) : Wild (a + b) := by
  rcases h with rfl | rfl
  · by_cases hb : b = ⊥
    · right; rw [hb, EReal.add_bot]
    · left; exact EReal.top_add_of_ne_bot hb
  · right; exact EReal.bot_add b

/-- A sum with an infinite term is an infinity. -/
theorem Wild.sum {ι : Type} [Fintype ι] {f : ι → EReal} (i : ι) (h : Wild (f i)) : Wild (∑ j, f j) := by
  classical
  rw [Fintype.sum_eq_add_sum_compl i f]
  exact h.add _

/-- A real that is not zero times an infinity is an infinity. -/
theorem Wild.real_mul {r : ℝ} (hr : r ≠ 0) {a : EReal} (h : Wild a) : Wild ((r : EReal) * a) := by
  rcases lt_or_gt_of_ne hr with h0 | h0 <;> rcases h with rfl | rfl
  · right; exact EReal.coe_mul_top_of_neg h0
  · left; exact EReal.coe_mul_bot_of_neg h0
  · left; exact EReal.coe_mul_top_of_pos h0
  · right; exact EReal.coe_mul_bot_of_pos h0

/-- Anything less an infinity is an infinity. -/
theorem Wild.sub {b : EReal} (h : Wild b) (a : EReal) : Wild (a - b) := by
  rw [sub_eq_add_neg, add_comm]
  refine Wild.add ?_ a
  rcases h with rfl | rfl
  · right; exact EReal.neg_top
  · left; exact EReal.neg_bot

/-- An infinity's square is the positive one. -/
theorem Wild.mul_self {a : EReal} (h : Wild a) : a * a = ⊤ := by
  rcases h with rfl | rfl
  · exact EReal.top_mul_top
  · exact EReal.bot_mul_bot

/-- An infinity over a real is an infinity. -/
theorem Wild.div_real {a : EReal} (h : Wild a) {r : ℝ} (hr : r ≠ 0) : Wild (Ideal.div a (r : EReal)) := by
  rw [Ideal.div_coe hr, mul_comm]
  exact h.real_mul (one_div_ne_zero hr)

/-- A sum of terms that are not negative, one of them infinite. -/
theorem sum_top {ι : Type} [Fintype ι] {f : ι → EReal} (h : ∀ i, 0 ≤ f i) (i : ι) (hi : f i = ⊤) : ∑ j, f j = ⊤ := by
  classical
  rw [Fintype.sum_eq_add_sum_compl i f, hi]
  exact EReal.top_add_of_ne_bot (ne_of_gt (lt_of_lt_of_le EReal.bot_lt_zero (Finset.sum_nonneg fun j _ => h j)))

/-! ## The normalization of a row -/

/-- A row's mean. -/
def mean (h : Fin 128 → EReal) : EReal := Ideal.div (∑ l, h l) ((128 : ℝ) : EReal)

/-- The row less its mean, over the root of its variance and the small number, scaled by `g` and shifted by `s`, negative entries put to zero. -/
def norm (h g s : Fin 128 → EReal) (c : Fin 128) : EReal :=
  max (Ideal.div (h c - mean h) (Ideal.sqrt (Ideal.div (∑ k, (h k - mean h) * (h k - mean h)) ((128 : ℝ) : EReal) + (eps : EReal))) * g c + s c) 0

/-- The same from a row `d` whose mean is already taken off, with the reciprocal root. -/
def normCentred (d g s : Fin 128 → EReal) (c : Fin 128) : EReal :=
  max (d c * Ideal.rsqrt ((∑ k, d k * d k * ((1 / 128 : ℝ) : EReal)) + (eps : EReal)) * g c + s c) 0

/-- A row with an infinite entry is normalized to zero before the scale and the shift. -/
theorem norm_wild (h g s : Fin 128 → EReal) (c : Fin 128) (k : Fin 128) (hk : Wild (h k)) : norm h g s c = max (0 * g c + s c) 0 := by
  have hm : Wild (mean h) := (Wild.sum k hk).div_real (by norm_num)
  have hsum : (∑ k, (h k - mean h) * (h k - mean h)) = ⊤ :=
    sum_top (fun i => by rw [(hm.sub (h i)).mul_self]; exact le_top) k (hm.sub (h k)).mul_self
  have hroot : Ideal.sqrt (Ideal.div ⊤ ((128 : ℝ) : EReal) + (eps : EReal)) = ⊤ := by
    rw [Ideal.div_coe (by norm_num), EReal.top_mul_coe_of_pos (by norm_num), EReal.top_add_coe]
    rfl
  unfold norm
  rw [hsum, hroot, Ideal.div, if_neg EReal.top_ne_zero, EReal.inv_top, mul_zero]

/-- So is a row all of whose entries are infinite after centring. -/
theorem normCentred_wild (d g s : Fin 128 → EReal) (c : Fin 128) (hd : ∀ k, Wild (d k)) : normCentred d g s c = max (0 * g c + s c) 0 := by
  have ht : ∀ k, d k * d k * ((1 / 128 : ℝ) : EReal) = ⊤ := fun k => by
    rw [(hd k).mul_self, EReal.top_mul_coe_of_pos (by norm_num)]
  have hroot : Ideal.rsqrt (⊤ + (eps : EReal)) = 0 := by
    rw [EReal.top_add_coe]
    rfl
  unfold normCentred
  rw [sum_top (fun i => by rw [ht]; exact le_top) c (ht c), hroot, mul_zero]

/-- On a row of reals the two agree. -/
theorem norm_real (r : Fin 128 → ℝ) (g s : Fin 128 → EReal) (c : Fin 128) :
    norm (fun c => (r c : EReal)) g s c = normCentred (fun c => ((r c - (∑ l, r l) / 128 : ℝ) : EReal)) g s c := by
  have hm : mean (fun c => (r c : EReal)) = (((∑ l, r l) / 128 : ℝ) : EReal) := by
    unfold mean
    rw [← coe_sum, Model.div_real _ (by norm_num)]
  unfold norm normCentred
  rw [hm]
  simp only [← EReal.coe_sub]
  generalize hd : (fun k => r k - (∑ l, r l) / 128) = d
  have hd' : ∀ k, r k - (∑ l, r l) / 128 = d k := fun k => congrFun hd k
  simp only [hd', ← EReal.coe_mul]
  rw [← coe_sum, ← coe_sum, Model.div_real _ (by norm_num), ← EReal.coe_add, ← EReal.coe_add, ← Finset.sum_mul, mul_one_div]
  have hp : 0 < (∑ k, d k * d k) / 128 + eps :=
    add_pos_of_nonneg_of_pos (div_nonneg (Finset.sum_nonneg fun c _ => mul_self_nonneg _) (by norm_num)) eps_pos
  rw [sqrt_real hp.le, rsqrt_real hp, Model.div_real _ (Real.sqrt_pos.2 hp).ne', ← EReal.coe_mul, div_eq_mul_inv]

/-! ## Centring through a matrix -/

/-- The matrix `I - 1/128`. -/
def cmat (l c : Fin 128) : ℝ := (if l = c then 1 else 0) - 1 / 128

/-- It has no zero entry. -/
theorem cmat_ne (l c : Fin 128) : cmat l c ≠ 0 := by
  unfold cmat
  split <;> norm_num

/-- A row times `I - 1/128` is the row less its mean. -/
theorem sum_cmat (f : Fin 128 → ℝ) (c : Fin 128) : ∑ l, f l * cmat l c = f c - (∑ l, f l) / 128 := by
  unfold cmat
  simp only [mul_sub, Finset.sum_sub_distrib, ← Finset.sum_mul, mul_ite, mul_one, mul_zero, Finset.sum_ite_eq', Finset.mem_univ, if_true]
  ring

/-- A real combination of rows, each multiplied by `I - 1/128` first, is normalized like the combination itself, whether the rows' entries are
    real or infinite. -/
theorem rows_agree {J : Type} [Fintype J] (a : J → ℝ) (w : J → Fin 128 → EReal) (g s : Fin 128 → EReal) (c : Fin 128) :
    normCentred (fun e => ∑ j, (a j : EReal) * ∑ l, w j l * (cmat l e : EReal)) g s c = norm (fun e => ∑ j, (a j : EReal) * w j e) g s c := by
  by_cases hw : ∃ j l, a j ≠ 0 ∧ Wild (w j l)
  · obtain ⟨j, l, hj, hl⟩ := hw
    rw [norm_wild _ g s c l (Wild.sum j (hl.real_mul hj)), normCentred_wild]
    intro e
    refine Wild.sum j (Wild.real_mul hj (Wild.sum l ?_))
    rw [mul_comm]
    exact hl.real_mul (cmat_ne l e)
  · have hterm : ∀ j e, (a j : EReal) * w j e = ((a j * (w j e).toReal : ℝ) : EReal) := by
      intro j e
      by_cases hj : a j = 0
      · rw [hj, zero_mul, EReal.coe_zero, zero_mul]
      · rw [EReal.coe_mul, ← real_of_not_wild fun h => hw ⟨j, e, hj, h⟩]
    have hcen : ∀ j e, (a j : EReal) * ∑ l, w j l * (cmat l e : EReal) = ((a j * ∑ l, (w j l).toReal * cmat l e : ℝ) : EReal) := by
      intro j e
      by_cases hj : a j = 0
      · rw [hj, zero_mul, EReal.coe_zero, zero_mul]
      · rw [EReal.coe_mul, coe_sum]
        refine congrArg _ (Finset.sum_congr rfl fun l _ => ?_)
        rw [EReal.coe_mul, ← real_of_not_wild fun h => hw ⟨j, l, hj, h⟩]
    simp only [hterm, hcen, ← coe_sum]
    rw [norm_real]
    congr 1
    funext e
    congr 1
    simp only [sum_cmat, mul_sub, Finset.sum_sub_distrib]
    rw [Finset.sum_comm (f := fun l j => a j * (w j l).toReal)]
    simp only [← Finset.mul_sum, Finset.sum_div, mul_div_assoc]

/-! ## The layer -/

variable (X : Fin 32768 → Fin 128 → ℝ) (W2 : Fin 128 → Fin 128 → ℝ) (b2 : Fin 128 → ℝ)
  (Wa Wb : Fin 128 → Fin 128 → EReal) (b1 : Fin 128 → EReal) (E : ℕ → ℕ)

/-- The sum of segment `b`'s rows. -/
def total (b : Fin 16) (k : Fin 128) : ℝ := ∑ i : Fin 32768, if Segment.seg E i.val = b.val then X i k else 0

/-- Segment `b`'s pooled row: the first network applied to the mean of its rows. -/
def pool (b : Fin 16) (e : Fin 128) : ℝ :=
  max ((∑ k, total X E b k / ((E (b.val + 1) - E b.val : ℕ) : ℝ) * W2 k e) + b2 e) 0

/-- The second network's row, its weights in two halves: the first for the row itself, the second for its segment's pooled row. -/
def hidden (i : Fin 32768) (c : Fin 128) : EReal :=
  (∑ k, (X i k : EReal) * Wa k c) + (∑ k, (pool X W2 b2 E ⟨Segment.seg E i.val, Segment.seg_lt E i.val⟩ k : EReal) * Wb k c) + b1 c

/-- The layer's output: the hidden row normalized, scaled and shifted by `g` and `s` (any extended reals). -/
def layer (g s : Fin 128 → EReal) (i : Fin 32768) (c : Fin 128) : EReal := norm (hidden X W2 b2 Wa Wb b1 E i) g s c

/-- What a segment's pooled row adds to its rows in the kernel: the lower weights and the bias are centred first. -/
def lift (b : Fin 16) (e : Fin 128) : EReal :=
  (∑ k, (pool X W2 b2 E b k : EReal) * ∑ l, Wb k l * (cmat l e : EReal)) + ∑ l, b1 l * (cmat l e : EReal)

/-- The kernel's row: the upper weights are centred first. -/
def kernelRow (i : Fin 32768) (e : Fin 128) : EReal :=
  (∑ k, (X i k : EReal) * ∑ l, Wa k l * (cmat l e : EReal)) + lift X W2 b2 Wb b1 E ⟨Segment.seg E i.val, Segment.seg_lt E i.val⟩ e

/-- The kernel's row, normalized without taking its mean off again, is the layer's. -/
theorem kernelRow_layer (g s : Fin 128 → EReal) (i : Fin 32768) (c : Fin 128) :
    normCentred (kernelRow X W2 b2 Wa Wb b1 E i) g s c = layer X W2 b2 Wa Wb b1 E g s i c := by
  have key := rows_agree (J := Fin 128 ⊕ Fin 128 ⊕ Unit)
    (Sum.elim (X i) (Sum.elim (pool X W2 b2 E ⟨Segment.seg E i.val, Segment.seg_lt E i.val⟩) fun _ => 1))
    (Sum.elim Wa (Sum.elim Wb fun _ => b1)) g s c
  simp only [Fintype.sum_sum_type, Sum.elim_inl, Sum.elim_inr, Finset.univ_unique, Finset.sum_singleton, EReal.coe_one, one_mul] at key
  have hh : hidden X W2 b2 Wa Wb b1 E i = fun e => (∑ k, (X i k : EReal) * Wa k e)
      + ((∑ k, (pool X W2 b2 E ⟨Segment.seg E i.val, Segment.seg_lt E i.val⟩ k : EReal) * Wb k e) + b1 e) := funext fun e => add_assoc _ _ _
  unfold layer
  rw [hh]
  exact key

end Cert.Model
-- ==== Proof.Reference.lean ====
/- The reference's result at an index: the layer of `Model.lean`, for finite rows, `W2` and `b2`, and increasing offsets. -/
module

public import proofs.«01_k».proof.Proof.Model

@[expose] public section

noncomputable section

namespace Cert.Model

open Idealize.ShloMosaic Idealize.ShloMosaic.TcCoe
open Cert.ReferenceIdeal Cert.ReferenceIdeal.Gen Cert.ReferenceIdeal.Value Cert.Segment

/-- The inputs of the layer, read off the argument arrays: the offsets, the real numbers that the finite arrays
    hold, and the entries of `W1`, in two halves, and of `b1`. -/
structure Reads (x : S32768x128.Idx → EReal) (o : IVec S16 32) (w2 : S128x128.Idx → EReal) (b2 : S128.Idx → EReal)
    (w1 : S256x128.Idx → EReal) (b1 : S128.Idx → EReal) (X : Fin 32768 → Fin 128 → ℝ) (W2 : Fin 128 → Fin 128 → ℝ) (B2 : Fin 128 → ℝ)
    (Wa Wb : Fin 128 → Fin 128 → EReal) (B1 : Fin 128 → EReal) (E : ℕ → ℕ) : Prop where
  rows : ∀ i k, x (ix2 i k) = (X i k : EReal)
  ends : Ends o E
  weights2 : ∀ k e, w2 (ix2 k e) = (W2 k e : EReal)
  bias2 : ∀ e, b2 (ix1 e) = (B2 e : EReal)
  upper : ∀ k c, w1 (ix2 ⟨k.val, by omega⟩ c) = Wa k c
  lower : ∀ k c, w1 (ix2 ⟨128 + k.val, by omega⟩ c) = Wb k c
  bias1 : ∀ c, b1 (ix1 c) = B1 c

variable (V0 : Valuation τ sig (Elt Ideal)) {X : Fin 32768 → Fin 128 → ℝ} {W2 : Fin 128 → Fin 128 → ℝ} {B2 : Fin 128 → ℝ}
    {Wa Wb : Fin 128 → Fin 128 → EReal} {B1 : Fin 128 → EReal} {E : ℕ → ℕ}

/-- The reference's argument arrays hold the inputs. -/
abbrev RefReads (X : Fin 32768 → Fin 128 → ℝ) (W2 : Fin 128 → Fin 128 → ℝ) (B2 : Fin 128 → ℝ)
    (Wa Wb : Fin 128 → Fin 128 → EReal) (B1 : Fin 128 → EReal) (E : ℕ → ℕ) : Prop :=
  Reads (V0 (Proc.devRef .tc main_arg1)) (V0 (Proc.devRef .tc main_arg2)) (V0 (Proc.devRef .tc main_arg3)) (V0 (Proc.devRef .tc main_arg4))
    (V0 (Proc.devRef .tc main_arg5)) (V0 (Proc.devRef .tc main_arg6)) X W2 B2 Wa Wb B1 E

/-- The accumulating scatter at an element: the operand's element and the sum of the updates that land there. -/
theorem scatterAdd_at {s si su : Shape} (d : ScatterDims s si su) (x : FVec Ideal s .f32) (idx : IVec si 32) (upd : FVec Ideal su .f32) (j : s.Idx) :
    Host.scatterAdd d x idx upd j = x j + ∑ k ∈ Finset.univ.filter (fun k => d.resultIdx? k idx = some j), upd k := rfl

/-- The scatter-add of the rows: segment `b`'s sum. -/
theorem total_at (h : RefReads V0 X W2 B2 Wa Wb B1 E) (b : Fin 16) (k : Fin 128) :
    Host.scatterAdd scatter_S16x128_S32768x1_S32768x128_1_0_0_1 (broadcastInDim S16x128 ![] bcast_S_S16x128 (constant (F := Ideal) S_ .f32 0x00000000#32))
      (broadcastInDim S32768x1 ![0] bcast_S32768_S32768x1_0 (res_main_v22 V0)) (V0 (Proc.devRef .tc main_arg1)) (ix2 b k)
      = ((total X E b k : ℝ) : EReal) := by
  refine (scatterAdd_at _ _ _ _ _).trans ?_
  have hz : broadcastInDim S16x128 ![] bcast_S_S16x128 (constant (F := Ideal) S_ .f32 0x00000000#32) (ix2 b k) = (0 : EReal) := by pointwise
  rw [hz, zero_add]
  generalize hq : broadcastInDim S32768x1 ![0] bcast_S32768_S32768x1_0 (res_main_v22 V0) = idx
  have hidx : ∀ i : Fin 32768, idx (ix2 i (0 : Fin 1)) = BitVec.ofNat 32 (seg E i.val) := by
    intro i
    rw [← hq]
    pointwise
    exact seg_at V0 h.ends i
  have hlands : ∀ (i : Fin 32768) (c : Fin 128), scatter_S16x128_S32768x1_S32768x128_1_0_0_1.resultIdx? (ix2 i c) idx = some (ix2 b k)
      ↔ seg E i.val = b.val ∧ c = k := by
    intro i c
    rw [← ix2_eq b k, Routing.resultIdx?_ix2]
    have hs0 : scatter_S16x128_S32768x1_S32768x128_1_0_0_1.start (ix2 i c) idx 0 = (idx (ix2 i (0 : Fin 1))).toInt := by
      refine congrArg (fun z => (idx z).toInt) (funext fun a => ?_)
      match a with
      | ⟨0, _⟩ => rfl
      | ⟨1, _⟩ => rfl
    have hs1 : scatter_S16x128_S32768x1_S32768x128_1_0_0_1.start (ix2 i c) idx 1 = 0 := rfl
    have hw0 : scatter_S16x128_S32768x1_S32768x128_1_0_0_1.window (ix2 i c) 0 = 0 := rfl
    have hw1 : scatter_S16x128_S32768x1_S32768x128_1_0_0_1.window (ix2 i c) 1 = c.val := rfl
    have hl := seg_lt E i.val
    rw [hs0, hs1, hw0, hw1, hidx, StableHlo.Predicate.toInt_ofNat_small _ (by omega), Fin.ext_iff]
    omega
  rw [Finset.sum_filter, sum_idx2]
  unfold total
  rw [coe_sum]
  refine Finset.sum_congr rfl fun i _ => ?_
  rw [Finset.sum_eq_single k]
  · by_cases e : seg E i.val = b.val
    · rw [if_pos ((hlands i k).2 ⟨e, rfl⟩), if_pos e]
      exact h.rows i k
    · rw [if_neg fun q => e ((hlands i k).1 q).1, if_neg e]
      rfl
  · intro c _ hc
    exact if_neg fun q => hc ((hlands i c).1 q).2
  · intro q
    exact absurd (Finset.mem_univ _) q

/-- A segment's length as the reference divides by it. -/
theorem count_real {o : IVec S16 32} (h : Ends o E) (b : Fin 16) :
    ((BitVec.ofNat 32 (E (b.val + 1) - E b.val)).toInt : ℝ) = ((E (b.val + 1) - E b.val : ℕ) : ℝ) := by
  have h1 := h.mono (b.val + 1) 16 (by omega) le_rfl
  have h2 := h.last
  rw [StableHlo.Predicate.toInt_ofNat_small _ (by omega)]
  norm_cast

/-- The length is not zero. -/
theorem count_ne {o : IVec S16 32} (h : Ends o E) (b : Fin 16) : ((E (b.val + 1) - E b.val : ℕ) : ℝ) ≠ 0 := by
  have h1 := h.step b.val b.isLt
  exact_mod_cast (by omega : E (b.val + 1) - E b.val ≠ 0)

/-- The reference's hidden row. -/
theorem hidden_at (h : RefReads V0 X W2 B2 Wa Wb B1 E) (i : Fin 32768) (c : Fin 128) :
    res_main_v46 V0 (ix2 i c) = hidden X W2 B2 Wa Wb B1 E i c := by
  have hs := seg_at V0 h.ends
  have hcol : ∀ i : Fin 32768, broadcastInDim S32768x1 ![0] bcast_S32768_S32768x1_0 (select (cmpi .slt (res_main_v22 V0) (broadcastInDim S32768 ![] bcast_S_S32768 (constantI S_ 32 0#32))) (addi (res_main_v22 V0) (broadcastInDim S32768 ![] bcast_S_S32768 (constantI S_ 32 16#32))) (res_main_v22 V0)) (ix2 i (0 : Fin 1)) = BitVec.ofNat 32 (seg E i.val) := by
    intro i
    have := seg_lt E i.val
    pointwise [hs]
    exact Routing.wrap_of_lt _ _ (by rw [BitVec.toNat_ofNat]; omega)
  have hrow : ∀ (T : S16x128.Idx → EReal) (i : Fin 32768) (k : Fin 128),
      Host.gather gather_S16x128_S32768x1_S32768x128_1_0_n_n_0_1_1128 T (broadcastInDim S32768x1 ![0] bcast_S32768_S32768x1_0 (select (cmpi .slt (res_main_v22 V0) (broadcastInDim S32768 ![] bcast_S_S32768 (constantI S_ 32 0#32))) (addi (res_main_v22 V0) (broadcastInDim S32768 ![] bcast_S_S32768 (constantI S_ 32 16#32))) (res_main_v22 V0))) (ix2 i k)
        = T (ix2 ⟨seg E i.val, seg_lt E i.val⟩ k) := by
    intro T i k
    have := Routing.gather_row (nb := 16) (B := 128) (n := 32768) gather_S16x128_S32768x1_S32768x128_1_0_n_n_0_1_1128 rfl rfl rfl rfl rfl T _ i k
      ⟨seg E i.val, seg_lt E i.val⟩ ((congrArg _ (ix2_eq i 0)).trans (hcol i)) (by decide)
    rw [ix2_eq, ix2_eq] at this
    exact this
  unfold res_main_v46
  pointwise
  simp only [hrow]
  pointwise [total_at V0 h, length_at V0 h.ends]
  have hcnt : ∀ b : Fin 16, (FloatOps.sitofp FTy.f32 (BitVec.ofNat 32 (E (b.val + 1) - E b.val)) : Ideal .f32)
      = (((E (b.val + 1) - E b.val : ℕ) : ℝ) : EReal) := fun b => congrArg (fun r : ℝ => (r : EReal)) (count_real h.ends b)
  have hpool : ∀ (b : Fin 16) (e : Fin 128), max ((∑ k, Ideal.div (total X E b k : EReal) (FloatOps.sitofp FTy.f32 (BitVec.ofNat 32 (E (b.val + 1) - E b.val)) : Ideal .f32)
        * V0 (Proc.tc.devRef main_arg3) (ix2 k e)) + V0 (Proc.tc.devRef main_arg4) (ix1 e)) 0 = ((pool X W2 B2 E b e : ℝ) : EReal) := by
    intro b e
    unfold pool
    rw [coe_max, EReal.coe_add, coe_sum, hcnt, h.bias2]
    simp only [div_real _ (count_ne h.ends b), h.weights2, EReal.coe_mul]
    rfl
  refine (congrArg (fun q => _ + q + _) (Finset.sum_congr rfl fun k _ => congrArg (· * _) (hpool ⟨seg E i.val, seg_lt E i.val⟩ k))).trans ?_
  unfold hidden
  simp only [h.rows, h.upper, h.lower, h.bias1]

/-- The reference's result is the layer. -/
theorem reference_at (h : RefReads V0 X W2 B2 Wa Wb B1 E) (i : Fin 32768) (c : Fin 128) :
    maximumf (addf (mulf (Host.divf (subf (res_main_v46 V0) (broadcastInDim S32768x128 ![0, 1] bcast_S32768x1_S32768x128_0_1 (res_main_v50 V0))) (broadcastInDim S32768x128 ![0, 1] bcast_S32768x1_S32768x128_0_1 (Host.sqrt (addf (Host.divf (broadcastInDim S32768x1 ![0] bcast_S32768_S32768x1_0 (Host.reduceAdd (mulf (res_main_v52 V0) (res_main_v52 V0)) (constant S_ .f32 0x00000000#32) reducesTo_S32768x128_S32768_d1 h_S_)) (broadcastInDim S32768x1 ![] bcast_S_S32768x1 (constant S_ .f32 0x43000000#32))) (broadcastInDim S32768x1 ![] bcast_S_S32768x1 (constant S_ .f32 0x3727C5AC#32)))))) (broadcastInDim S32768x128 ![0, 1] bcast_S1x128_S32768x128_0_1 (broadcastInDim S1x128 ![1] bcast_S128_S1x128_1 (V0 (Proc.devRef .tc main_arg7))))) (broadcastInDim S32768x128 ![0, 1] bcast_S1x128_S32768x128_0_1 (broadcastInDim S1x128 ![1] bcast_S128_S1x128_1 (V0 (Proc.devRef .tc main_arg8))))) (broadcastInDim S32768x128 ![] bcast_S_S32768x128 (constant S_ .f32 0x00000000#32)) (ix2 i c)
      = layer X W2 B2 Wa Wb B1 E (fun c => V0 (Proc.devRef .tc main_arg7) (ix1 c)) (fun c => V0 (Proc.devRef .tc main_arg8) (ix1 c)) i c := by
  have hh := hidden_at V0 h
  pointwise [res_main_v52, res_main_v50]
  simp only [hh, width_word, eps_word]
  rfl

end Cert.Model
-- ==== Proof.Host.lean ====
/- What the kernel's host lines leave in the arrays it reads, at an index. -/
module

public import proofs.«01_k».proof.Proof.Data
public import proofs.«01_k».proof.Proof.Reference
public import Idealize.ShloMosaic.Lib.StableHlo.ReadAt

@[expose] public section

set_option maxRecDepth 8192

noncomputable section

namespace Cert.KernelIdeal.Body

open Cert.KernelIdeal.Gen
open Cert.Model (Reads total pool cmat part_word div_real coe_sum)
open Cert.Segment (seg Ends)
open Idealize.ShloMosaic Idealize.ShloMosaic.TcCoe Idealize.SL.Sem

variable (m : (ℓ : Loc nD τ sig) → Buf (Elt Ideal) ℓ) (c : Dev nD) {X : Fin 32768 → Fin 128 → ℝ} {W2 : Fin 128 → Fin 128 → ℝ} {B2 : Fin 128 → ℝ}
    {Wa Wb : Fin 128 → Fin 128 → EReal} {B1 : Fin 128 → EReal} {E : ℕ → ℕ}

/-- The kernel's argument arrays on device `c` hold the inputs. -/
abbrev HoldsInputs (X : Fin 32768 → Fin 128 → ℝ) (W2 : Fin 128 → Fin 128 → ℝ) (B2 : Fin 128 → ℝ)
    (Wa Wb : Fin 128 → Fin 128 → EReal) (B1 : Fin 128 → EReal) (E : ℕ → ℕ) : Prop :=
  Reads (m (c, Proc.tc.devRef main_arg1)) (m (c, Proc.tc.devRef main_arg2)) (m (c, Proc.tc.devRef main_arg3)) (m (c, Proc.tc.devRef main_arg4))
    (m (c, Proc.tc.devRef main_arg5)) (m (c, Proc.tc.devRef main_arg6)) X W2 B2 Wa Wb B1 E

/-- One where the two coordinates agree and zero elsewhere, as the host computes it from their words. -/
theorem same_word (l e : Fin 128) : FloatOps.uitofp (F := Ideal) FTy.f32 (IntOp.cmpi CmpIPredicate.eq (IntOp.addi (BitVec.ofNat 32 l.val) 0#32) (BitVec.ofNat 32 e.val))
    = ((if l = e then 1 else 0 : ℝ) : EReal) := by
  have hadd : IntOp.addi (BitVec.ofNat 32 l.val) 0#32 = BitVec.ofNat 32 l.val := BitVec.add_zero _
  rw [hadd]
  show (((IntOp.cmpi CmpIPredicate.eq (BitVec.ofNat 32 l.val) (BitVec.ofNat 32 e.val)).toNat : ℝ) : EReal) = _
  by_cases h : l = e
  · subst h; simp [IntOp.cmpi]
  · have : BitVec.ofNat 32 l.val ≠ BitVec.ofNat 32 e.val := by
      intro hw
      apply h
      have := congrArg BitVec.toNat hw
      simp only [BitVec.toNat_ofNat] at this
      omega
    simp [IntOp.cmpi, h, this]

/-- A row times the centring matrix's column, as the host computes it. -/
theorem centring_sum (f w : Fin 128 → EReal) (hw : ∀ l, w l = f l) (e : Fin 128) :
    (∑ l : Fin 128, w l * (FloatOps.uitofp (F := Ideal) FTy.f32 (IntOp.cmpi CmpIPredicate.eq (IntOp.addi (BitVec.ofNat 32 l.val) 0#32) (BitVec.ofNat 32 e.val))
        - Ideal.ofBits FTy.f32 0x3C000000#32) : EReal)
      = ∑ l, f l * (cmat l e : EReal) := by
  refine Finset.sum_congr rfl fun l _ => ?_
  rw [same_word, part_word, hw, ← EReal.coe_sub]
  rfl

/-- The segments' first rows. -/
theorem starts_read (h : HoldsInputs m c X W2 B2 Wa Wb B1 E) (b : Fin 16) : V m c main_call0_v4 (ix2 b (0 : Fin 1)) = BitVec.ofNat 32 (E b.val) := by
  unfold V
  after_reads_at
  have h1 : ∀ (i : Fin 1), StableHlo.upto hostOps0 (fun b => m (c, b)) 4 (Proc.tc.devRef main_call0_v1) (ix1 i) = 0#32 := by
    intro i
    simp only [StableHlo.upto, hostOps0, List.take_succ_cons, List.take_zero]
    after_reads_at
  have h2 : ∀ (i : Fin 15), StableHlo.upto hostOps0 (fun b => m (c, b)) 4 (Proc.tc.devRef main_call0_v2) (ix1 i) = m (c, Proc.tc.devRef main_arg2) (ix1 ⟨i.val, by omega⟩) := by
    intro i
    simp only [StableHlo.upto, hostOps0, List.take_succ_cons, List.take_zero]
    after_reads_at
  split
  · next hb =>
    rw [h1, show b.val = 0 by omega, h.ends.zero]
  · next hb =>
    rw [h2]
    exact (h.ends.word ⟨b.val - 1, by omega⟩).trans (congrArg (fun n => BitVec.ofNat 32 (E n)) (show b.val - 1 + 1 = b.val by omega))

/-- The segments' ends. -/
theorem ends_read (h : HoldsInputs m c X W2 B2 Wa Wb B1 E) (b : Fin 16) : V m c main_call0_v0 (ix2 b (0 : Fin 1)) = BitVec.ofNat 32 (E (b.val + 1)) := by
  unfold V
  after_reads_at
  exact h.ends.word b

/-- The reciprocals of the segments' lengths. -/
theorem inv_read (h : HoldsInputs m c X W2 B2 Wa Wb B1 E) (b : Fin 16) :
    V m c main_call0_v13 (ix2 b (0 : Fin 1)) = ((1 / ((E (b.val + 1) - E b.val : ℕ) : ℝ) : ℝ) : EReal) := by
  unfold V
  after_reads_at
  have h1 : ∀ (i : Fin 1), StableHlo.upto hostOps0 (fun b => m (c, b)) 10 (Proc.tc.devRef main_call0_v5) (ix1 i) = m (c, Proc.tc.devRef main_arg2) (ix1 ⟨i.val, by omega⟩) := by
    intro i
    simp only [StableHlo.upto, hostOps0, List.take_succ_cons, List.take_zero]
    after_reads_at
  have h2 : ∀ (i : Fin 15), StableHlo.upto hostOps0 (fun b => m (c, b)) 10 (Proc.tc.devRef main_call0_v8) (ix1 i)
      = IntOp.subi (m (c, Proc.tc.devRef main_arg2) (ix1 ⟨1 + i.val, by omega⟩)) (m (c, Proc.tc.devRef main_arg2) (ix1 ⟨i.val, by omega⟩)) := by
    intro i
    simp only [StableHlo.upto, hostOps0, List.take_succ_cons, List.take_zero]
    after_reads_at
  have hlen : (if h : b.val < 1 then StableHlo.upto hostOps0 (fun b => m (c, b)) 10 (Proc.tc.devRef main_call0_v5) (ix1 ⟨b.val, h⟩)
      else StableHlo.upto hostOps0 (fun b => m (c, b)) 10 (Proc.tc.devRef main_call0_v8) (ix1 ⟨b.val - 1, by omega⟩)) = BitVec.ofNat 32 (E (b.val + 1) - E b.val) := by
    split
    · next hb =>
      rw [h1, show E b.val = 0 by rw [show b.val = 0 by omega, h.ends.zero], Nat.sub_zero]
      exact h.ends.word b
    · next hb =>
      rw [h2]
      have hs := h.ends.step b.val b.isLt
      refine (congrArg₂ IntOp.subi (h.ends.word ⟨1 + (b.val - 1), by omega⟩) (h.ends.word ⟨b.val - 1, by omega⟩)).trans ?_
      show IntOp.subi (BitVec.ofNat 32 (E (1 + (b.val - 1) + 1))) (BitVec.ofNat 32 (E (b.val - 1 + 1))) = _
      rw [show 1 + (b.val - 1) + 1 = b.val + 1 by omega, show b.val - 1 + 1 = b.val by omega,
        show E (b.val + 1) = (E (b.val + 1) - E b.val) + E b.val by omega, BitVec.ofNat_add, Nat.add_sub_cancel]
      exact BitVec.add_sub_cancel _ _
  rw [hlen]
  show Ideal.div ((1 : ℝ) : EReal) ((((BitVec.ofNat 32 (E (b.val + 1) - E b.val)).toInt : ℝ)) : EReal) = _
  rw [Cert.Model.count_real h.ends b]
  exact div_real 1 (Cert.Model.count_ne h.ends b)

/-- The upper half of `W1`, centred. -/
theorem upper_read (h : HoldsInputs m c X W2 B2 Wa Wb B1 E) (k e : Fin 128) : V m c main_call0_v23 (ix2 k e)
    = ∑ l, Wa k l * (cmat l e : EReal) := by
  unfold V
  after_reads_at
  exact centring_sum (Wa k) _ (h.upper k) e

/-- The lower half, centred. -/
theorem lower_read (h : HoldsInputs m c X W2 B2 Wa Wb B1 E) (k e : Fin 128) : V m c main_call0_v25 (ix2 k e)
    = ∑ l, Wb k l * (cmat l e : EReal) := by
  unfold V
  after_reads_at
  exact centring_sum (Wb k) _ (h.lower k) e

/-- The bias, centred, as a row. -/
theorem bias1_read (h : HoldsInputs m c X W2 B2 Wa Wb B1 E) (e : Fin 128) : V m c main_call0_v27 (ix2 (0 : Fin 1) e)
    = ∑ l, B1 l * (cmat l e : EReal) := by
  unfold V
  after_reads_at
  exact centring_sum B1 _ h.bias1 e

/-- The pooled network's bias as a row. -/
theorem bias2_read (h : HoldsInputs m c X W2 B2 Wa Wb B1 E) (e : Fin 128) : V m c main_call0_v28 (ix2 (0 : Fin 1) e) = (B2 e : EReal) := by
  unfold V
  after_reads_at
  exact h.bias2 e

/-- The scale as a row. -/
theorem scale_read (e : Fin 128) : V m c main_call0_v29 (ix2 (0 : Fin 1) e) = m (c, Proc.tc.devRef main_arg7) (ix1 e) := by
  unfold V
  after_reads_at

/-- The shift as a row. -/
theorem shift_read (e : Fin 128) : V m c main_call0_v30 (ix2 (0 : Fin 1) e) = m (c, Proc.tc.devRef main_arg8) (ix1 e) := by
  unfold V
  after_reads_at

/-- The matrix whose entries are one 128th. -/
theorem part_read (k e : Fin 128) : V m c main_call0_v31 (ix2 k e) = ((1 / 128 : ℝ) : EReal) := by
  unfold V
  after_reads_at
  exact part_word

end Cert.KernelIdeal.Body
-- ==== Proof.Blocks.lean ====
/- The blocks the kernel reads at a grid point, at an index. -/
module

public import proofs.«01_k».proof.Proof.Host

@[expose] public section

set_option maxRecDepth 8192

noncomputable section

namespace Cert.KernelIdeal.Body

open Cert.KernelIdeal.Gen
open Cert.Model (Reads total pool cmat part_word div_real coe_sum)
open Cert.Segment (seg Ends)
open Idealize.ShloMosaic Idealize.ShloMosaic.TcCoe Idealize.SL.Sem

variable (m : (ℓ : Loc nD τ sig) → Buf (Elt Ideal) ℓ) (c : Dev nD) {X : Fin 32768 → Fin 128 → ℝ} {W2 : Fin 128 → Fin 128 → ℝ} {B2 : Fin 128 → ℝ}
    {Wa Wb : Fin 128 → Fin 128 → EReal} {B1 : Fin 128 → EReal} {E : ℕ → ℕ}

/-- Two indices of a matrix agree where their coordinates do. -/
theorem at_ix2 {n p : ℕ} {i : (⟨2, ![n, p]⟩ : Shape).Idx} {a : Fin n} {b : Fin p} (h0 : (i 0).val = a.val) (h1 : (i 1).val = b.val) : i = ix2 a b := by
  funext d
  apply Fin.ext
  match d with
  | ⟨0, _⟩ => exact h0
  | ⟨1, _⟩ => exact h1

/-- The segments' first rows, as a block. -/
theorem block_starts (h : HoldsInputs m c X W2 B2 Wa Wb B1 E) (t : Fin cfg0.N) (b : Fin 16) :
    iblk m c 1 t (ix2 b (0 : Fin 1)) = BitVec.ofNat 32 (E b.val) := by
  have hi : ∀ t : Fin grid0.N, win0_1.index t (0 : Fin 2) = 0 ∧ win0_1.index t (1 : Fin 2) = 0 := by decide +kernel
  obtain ⟨i0, i1⟩ := hi t
  refine Eq.trans ?_ (starts_read m c h b)
  blk_simp [iblk]
  refine congrArg _ (at_ix2 ?_ ?_)
  · blk_simp; rw [i0]; first | rfl | omega
  · blk_simp; rw [i1]; first | rfl | omega

/-- The segments' ends, as a block. -/
theorem block_ends (h : HoldsInputs m c X W2 B2 Wa Wb B1 E) (t : Fin cfg0.N) (b : Fin 16) :
    iblk m c 2 t (ix2 b (0 : Fin 1)) = BitVec.ofNat 32 (E (b.val + 1)) := by
  have hi : ∀ t : Fin grid0.N, win0_2.index t (0 : Fin 2) = 0 ∧ win0_2.index t (1 : Fin 2) = 0 := by decide +kernel
  obtain ⟨i0, i1⟩ := hi t
  refine Eq.trans ?_ (ends_read m c h b)
  blk_simp [iblk]
  refine congrArg _ (at_ix2 ?_ ?_)
  · blk_simp; rw [i0]; first | rfl | omega
  · blk_simp; rw [i1]; first | rfl | omega

/-- The reciprocal lengths, as a block. -/
theorem block_inv (h : HoldsInputs m c X W2 B2 Wa Wb B1 E) (t : Fin cfg0.N) (b : Fin 16) :
    iblk m c 3 t (ix2 b (0 : Fin 1)) = ((1 / ((E (b.val + 1) - E b.val : ℕ) : ℝ) : ℝ) : EReal) := by
  have hi : ∀ t : Fin grid0.N, win0_3.index t (0 : Fin 2) = 0 ∧ win0_3.index t (1 : Fin 2) = 0 := by decide +kernel
  obtain ⟨i0, i1⟩ := hi t
  refine Eq.trans ?_ (inv_read m c h b)
  blk_simp [iblk]
  refine congrArg _ (at_ix2 ?_ ?_)
  · blk_simp; rw [i0]; first | rfl | omega
  · blk_simp; rw [i1]; first | rfl | omega

/-- The pooled network's weights, as a block. -/
theorem block_weights2 (h : HoldsInputs m c X W2 B2 Wa Wb B1 E) (t : Fin cfg0.N) (k e : Fin 128) :
    iblk m c 4 t (ix2 k e) = (W2 k e : EReal) := by
  have hi : ∀ t : Fin grid0.N, win0_4.index t (0 : Fin 2) = 0 ∧ win0_4.index t (1 : Fin 2) = 0 := by decide +kernel
  obtain ⟨i0, i1⟩ := hi t
  refine Eq.trans ?_ (h.weights2 k e)
  blk_simp [iblk]
  rw [V_main_arg3]
  refine congrArg _ (at_ix2 ?_ ?_)
  · blk_simp; rw [i0]; first | rfl | omega
  · blk_simp; rw [i1]; first | rfl | omega

/-- The pooled network's bias, as a block. -/
theorem block_bias2 (h : HoldsInputs m c X W2 B2 Wa Wb B1 E) (t : Fin cfg0.N) (e : Fin 128) :
    iblk m c 5 t (ix2 (0 : Fin 1) e) = (B2 e : EReal) := by
  have hi : ∀ t : Fin grid0.N, win0_5.index t (0 : Fin 2) = 0 ∧ win0_5.index t (1 : Fin 2) = 0 := by decide +kernel
  obtain ⟨i0, i1⟩ := hi t
  refine Eq.trans ?_ (bias2_read m c h e)
  blk_simp [iblk]
  refine congrArg _ (at_ix2 ?_ ?_)
  · blk_simp; rw [i0]; first | rfl | omega
  · blk_simp; rw [i1]; first | rfl | omega

/-- The centred lower half of `W1`, as a block. -/
theorem block_lower (h : HoldsInputs m c X W2 B2 Wa Wb B1 E) (t : Fin cfg0.N) (k e : Fin 128) :
    iblk m c 6 t (ix2 k e) = ∑ l, Wb k l * (cmat l e : EReal) := by
  have hi : ∀ t : Fin grid0.N, win0_6.index t (0 : Fin 2) = 0 ∧ win0_6.index t (1 : Fin 2) = 0 := by decide +kernel
  obtain ⟨i0, i1⟩ := hi t
  refine Eq.trans ?_ (lower_read m c h k e)
  blk_simp [iblk]
  refine congrArg _ (at_ix2 ?_ ?_)
  · blk_simp; rw [i0]; first | rfl | omega
  · blk_simp; rw [i1]; first | rfl | omega

/-- The centred bias, as a block. -/
theorem block_bias1 (h : HoldsInputs m c X W2 B2 Wa Wb B1 E) (t : Fin cfg0.N) (e : Fin 128) :
    iblk m c 7 t (ix2 (0 : Fin 1) e) = ∑ l, B1 l * (cmat l e : EReal) := by
  have hi : ∀ t : Fin grid0.N, win0_7.index t (0 : Fin 2) = 0 ∧ win0_7.index t (1 : Fin 2) = 0 := by decide +kernel
  obtain ⟨i0, i1⟩ := hi t
  refine Eq.trans ?_ (bias1_read m c h e)
  blk_simp [iblk]
  refine congrArg _ (at_ix2 ?_ ?_)
  · blk_simp; rw [i0]; first | rfl | omega
  · blk_simp; rw [i1]; first | rfl | omega

/-- The centred upper half of `W1`, as a block. -/
theorem block_upper (h : HoldsInputs m c X W2 B2 Wa Wb B1 E) (t : Fin cfg0.N) (k e : Fin 128) :
    iblk m c 8 t (ix2 k e) = ∑ l, Wa k l * (cmat l e : EReal) := by
  have hi : ∀ t : Fin grid0.N, win0_8.index t (0 : Fin 2) = 0 ∧ win0_8.index t (1 : Fin 2) = 0 := by decide +kernel
  obtain ⟨i0, i1⟩ := hi t
  refine Eq.trans ?_ (upper_read m c h k e)
  blk_simp [iblk]
  refine congrArg _ (at_ix2 ?_ ?_)
  · blk_simp; rw [i0]; first | rfl | omega
  · blk_simp; rw [i1]; first | rfl | omega

/-- The scale, as a block. -/
theorem block_scale (t : Fin cfg0.N) (e : Fin 128) :
    iblk m c 9 t (ix2 (0 : Fin 1) e) = m (c, Proc.tc.devRef main_arg7) (ix1 e) := by
  have hi : ∀ t : Fin grid0.N, win0_9.index t (0 : Fin 2) = 0 ∧ win0_9.index t (1 : Fin 2) = 0 := by decide +kernel
  obtain ⟨i0, i1⟩ := hi t
  refine Eq.trans ?_ (scale_read m c e)
  blk_simp [iblk]
  refine congrArg _ (at_ix2 ?_ ?_)
  · blk_simp; rw [i0]; first | rfl | omega
  · blk_simp; rw [i1]; first | rfl | omega

/-- The shift, as a block. -/
theorem block_shift (t : Fin cfg0.N) (e : Fin 128) :
    iblk m c 10 t (ix2 (0 : Fin 1) e) = m (c, Proc.tc.devRef main_arg8) (ix1 e) := by
  have hi : ∀ t : Fin grid0.N, win0_10.index t (0 : Fin 2) = 0 ∧ win0_10.index t (1 : Fin 2) = 0 := by decide +kernel
  obtain ⟨i0, i1⟩ := hi t
  refine Eq.trans ?_ (shift_read m c e)
  blk_simp [iblk]
  refine congrArg _ (at_ix2 ?_ ?_)
  · blk_simp; rw [i0]; first | rfl | omega
  · blk_simp; rw [i1]; first | rfl | omega

/-- The matrix of 128ths, as a block. -/
theorem block_part (t : Fin cfg0.N) (k e : Fin 128) :
    iblk m c 11 t (ix2 k e) = ((1 / 128 : ℝ) : EReal) := by
  have hi : ∀ t : Fin grid0.N, win0_11.index t (0 : Fin 2) = 0 ∧ win0_11.index t (1 : Fin 2) = 0 := by decide +kernel
  obtain ⟨i0, i1⟩ := hi t
  refine Eq.trans ?_ (part_read m c k e)
  blk_simp [iblk]
  refine congrArg _ (at_ix2 ?_ ?_)
  · blk_simp; rw [i0]; first | rfl | omega
  · blk_simp; rw [i1]; first | rfl | omega

/-- In the first sweep the block of rows at point `k` is the rows from `8192 * k` on. -/
theorem block_rows (h : HoldsInputs m c X W2 B2 Wa Wb B1 E) (k : Fin 4) (r : Fin 8192) (e : Fin 128) :
    iblk m c 0 (pt k) (ix2 r e) = (X ⟨8192 * k.val + r.val, by omega⟩ e : EReal) := by
  have hi : ∀ k : Fin 4, win0_0.index (pt k) (0 : Fin 2) = k.val ∧ win0_0.index (pt k) (1 : Fin 2) = 0 := by decide +kernel
  obtain ⟨i0, i1⟩ := hi k
  refine Eq.trans ?_ (h.rows ⟨8192 * k.val + r.val, by omega⟩ e)
  blk_simp [iblk]
  rw [V_main_arg1]
  refine congrArg _ (at_ix2 ?_ ?_)
  · blk_simp; rw [i0]; show k.val * 8192 + r.val = 8192 * k.val + r.val; omega
  · blk_simp; rw [i1]; first | rfl | omega

end Cert.KernelIdeal.Body
-- ==== Proof.Values.lean ====
/- The kernel's result at an index: the layer. -/
module

public import proofs.«01_k».proof.Proof.Blocks

@[expose] public section

set_option maxRecDepth 8192

noncomputable section

namespace Cert.KernelIdeal.Body

open Cert.KernelIdeal.Gen
open Cert.Model
open Cert.Segment (seg Ends)
open Idealize.ShloMosaic Idealize.ShloMosaic.TcCoe Idealize.SL.Sem

variable (m : (ℓ : Loc nD τ sig) → Buf (Elt Ideal) ℓ) (c : Dev nD) {X : Fin 32768 → Fin 128 → ℝ} {W2 : Fin 128 → Fin 128 → ℝ} {B2 : Fin 128 → ℝ}
    {Wa Wb : Fin 128 → Fin 128 → EReal} {B1 : Fin 128 → EReal} {E : ℕ → ℕ}

/-- A row's membership in a segment, as the kernel decides it from three words. -/
theorem member_word {o : IVec ⟨1, ![16]⟩ 32} (h : Ends o E) (k : Fin 4) (r : Fin 8192) (b : Fin 16) :
    Scalar.select (IntOp.andi (IntOp.cmpi CmpIPredicate.sge (IntOp.addi (BitVec.ofNat 32 r.val) (Scalar.muli (BitVec.ofNat 32 k.val) 8192#32)) (BitVec.ofNat 32 (E b.val)))
        (IntOp.cmpi CmpIPredicate.slt (IntOp.addi (BitVec.ofNat 32 r.val) (Scalar.muli (BitVec.ofNat 32 k.val) 8192#32)) (BitVec.ofNat 32 (E (b.val + 1)))))
      (1 : EReal) 0 = ((if seg E (8192 * k.val + r.val) = b.val then 1 else 0 : ℝ) : EReal) := by
  have hi : 8192 * k.val + r.val < 32768 := by omega
  have hw : IntOp.addi (BitVec.ofNat 32 r.val) (Scalar.muli (BitVec.ofNat 32 k.val) 8192#32) = BitVec.ofNat 32 (8192 * k.val + r.val) := by
    show BitVec.ofNat 32 r.val + BitVec.ofNat 32 k.val * BitVec.ofNat 32 8192 = _
    rw [← BitVec.ofNat_mul, ← BitVec.ofNat_add, Nat.add_comm, Nat.mul_comm]
  rw [hw]
  have hl := h.last
  have l1 := h.mono b.val 16 (by omega) le_rfl
  have l2 := h.mono (b.val + 1) 16 (by omega) le_rfl
  have hge : IntOp.cmpi CmpIPredicate.sge (BitVec.ofNat 32 (8192 * k.val + r.val)) (BitVec.ofNat 32 (E b.val)) = BitVec.ofBool (decide (E b.val ≤ 8192 * k.val + r.val)) :=
    WordCmp.cmpi_sge_ofNat (by omega) (by omega)
  have hlt : IntOp.cmpi CmpIPredicate.slt (BitVec.ofNat 32 (8192 * k.val + r.val)) (BitVec.ofNat 32 (E (b.val + 1))) = BitVec.ofBool (decide (8192 * k.val + r.val < E (b.val + 1))) :=
    WordCmp.cmpi_slt_ofNat (by omega) (by omega)
  rw [hge, hlt]
  have hseg := h.seg_eq (8192 * k.val + r.val) b.val hi b.isLt
  by_cases h1 : E b.val ≤ 8192 * k.val + r.val <;> by_cases h2 : 8192 * k.val + r.val < E (b.val + 1) <;>
    simp [hseg, h1, h2, IntOp.andi, Scalar.select]

/-- A segment's indicator of a block's row. -/
theorem onehot_at (h : HoldsInputs m c X W2 B2 Wa Wb B1 E) (t : Fin cfg0.N) (k : Fin 4) (hk : t.val % 4 = k.val) (b : Fin 16) (r : Fin 8192) :
    k0_pay1 (F := Ideal) (grid0.coords t) (iblk m c 1 t) (iblk m c 2 t) (ix2 b r) = ((if seg E (8192 * k.val + r.val) = b.val then 1 else 0 : ℝ) : EReal) := by
  refine Eq.trans ?_ (member_word h.ends k r b)
  have hc := (coord_block t).trans hk
  pointwise [k0_pay1]
  rw [hc]
  have h1 := block_starts m c h t b
  have h2 := block_ends m c h t b
  rw [h1, h2]

/-- The product blocks. -/
theorem prod_at (h : HoldsInputs m c X W2 B2 Wa Wb B1 E) (k : Fin 4) (r : Fin 8192) (e : Fin 128) :
    prod m c k (ix2 r e) = ∑ d, (X ⟨8192 * k.val + r.val, by omega⟩ d : EReal) * ∑ l, Wa d l * (cmat l e : EReal) := by
  unfold prod
  pointwise [k0_pay4]
  refine Finset.sum_congr rfl fun d _ => ?_
  rw [block_rows m c h, block_upper m c h]

/-- One point adds its block's part of a segment's sum. -/
theorem sums_step (h : HoldsInputs m c X W2 B2 Wa Wb B1 E) (k : Fin 4) (b : Fin 16) (e : Fin 128) :
    sums m c (k.val + 1) (ix2 b e) = sums m c k.val (ix2 b e)
      + ((∑ r : Fin 8192, if seg E (8192 * k.val + r.val) = b.val then X ⟨8192 * k.val + r.val, by omega⟩ e else 0 : ℝ) : EReal) := by
  rw [sums, dif_pos k.isLt]
  generalize hs : sums m c k.val = s
  pointwise [k0_pay3]
  refine congrArg (_ + ·) ?_
  rw [coe_sum]
  refine Finset.sum_congr rfl fun r _ => ?_
  have hk : (pt k).val % 4 = k.val := Nat.mod_eq_of_lt k.isLt
  rw [onehot_at m c h (pt k) k hk, block_rows m c h, ← EReal.coe_mul, ite_mul, one_mul, zero_mul]

/-- The sums start at zero. -/
theorem sums_zero (b : Fin 16) (e : Fin 128) : sums m c 0 (ix2 b e) = (0 : EReal) := by
  rw [sums]
  pointwise [k0_pay2]

/-- A segment's sum, block by block. -/
theorem total_split (b : Fin 16) (e : Fin 128) : total X E b e
    = ∑ k : Fin 4, ∑ r : Fin 8192, if seg E (8192 * k.val + r.val) = b.val then X ⟨8192 * k.val + r.val, by omega⟩ e else 0 := by
  unfold total
  rw [← Fintype.sum_prod_type']
  refine (Fintype.sum_equiv (finProdFinEquiv : Fin 4 × Fin 8192 ≃ Fin 32768) _ _ ?_).symm
  rintro ⟨k, r⟩
  have hv : ((finProdFinEquiv (k, r) : Fin (4 * 8192))).val = 8192 * k.val + r.val := by
    simp only [finProdFinEquiv_apply_val]; omega
  have hx : (finProdFinEquiv (k, r) : Fin (4 * 8192)) = (⟨8192 * k.val + r.val, by omega⟩ : Fin 32768) := Fin.ext hv
  rw [hx]

/-- Four steps from zero, each adding a real. -/
theorem four_steps (s : ℕ → EReal) (p : Fin 4 → ℝ) (h0 : s 0 = 0) (hs : ∀ k : Fin 4, s (k.val + 1) = s k.val + (p k : EReal)) :
    s 4 = ((∑ k, p k : ℝ) : EReal) := by
  have s0 : s 1 = s 0 + (p 0 : EReal) := hs 0
  have s1 : s 2 = s 1 + (p 1 : EReal) := hs 1
  have s2 : s 3 = s 2 + (p 2 : EReal) := hs 2
  have s3 : s 4 = s 3 + (p 3 : EReal) := hs 3
  rw [s3, s2, s1, s0, h0, zero_add, Fin.sum_univ_four, EReal.coe_add, EReal.coe_add, EReal.coe_add]

/-- The sums after the first sweep. -/
theorem sums_at (h : HoldsInputs m c X W2 B2 Wa Wb B1 E) (b : Fin 16) (e : Fin 128) :
    sums m c 4 (ix2 b e) = ((total X E b e : ℝ) : EReal) := by
  rw [total_split]
  exact four_steps (fun n => sums m c n (ix2 b e)) _ (sums_zero m c b e) fun k => sums_step m c h k b e

/-- The pooled rows through the centred lower weights, with the centred bias: what each segment adds to its rows. -/
theorem pooled_at (h : HoldsInputs m c X W2 B2 Wa Wb B1 E) (b : Fin 16) (e : Fin 128) :
    pooled m c (ix2 b e) = lift X W2 B2 Wb B1 E b e := by
  unfold pooled
  pointwise [k0_pay5]
  have hm : ∀ k e : Fin 128, (sums m c 4 (ix2 b k) * iblk m c 3 pt4 (ix2 b (0 : Fin 1)) * iblk m c 4 pt4 (ix2 k e) : EReal)
      = ((total X E b k / ((E (b.val + 1) - E b.val : ℕ) : ℝ) * W2 k e : ℝ) : EReal) := by
    intro k e
    rw [sums_at m c h, block_inv m c h, block_weights2 m c h, ← EReal.coe_mul, ← EReal.coe_mul, mul_one_div]
  have hp : ∀ e : Fin 128, max ((∑ k, ((total X E b k / ((E (b.val + 1) - E b.val : ℕ) : ℝ) * W2 k e : ℝ) : EReal)) + (B2 e : EReal)) 0
      = ((Model.pool X W2 B2 E b e : ℝ) : EReal) := by
    intro e
    unfold Model.pool
    rw [coe_max, EReal.coe_add, coe_sum]
    rfl
  simp only [hm, block_lower m c h, block_bias2 m c h, block_bias1 m c h, hp]
  rfl

/-- An output block. -/
theorem outBlock_at (h : HoldsInputs m c X W2 B2 Wa Wb B1 E) (k : Fin 4) (r : Fin 8192) (e : Fin 128) :
    outBlock m c (pt' k) (ix2 r e) = layer X W2 B2 Wa Wb B1 E (fun e => m (c, Proc.tc.devRef main_arg7) (ix1 e)) (fun e => m (c, Proc.tc.devRef main_arg8) (ix1 e))
      ⟨8192 * k.val + r.val, by omega⟩ e := by
  unfold outBlock
  pointwise [k0_pay6]
  have hk : (pt' k).val % 4 = k.val := by
    show (4 + k.val) % 4 = k.val
    omega
  have hd : ∀ e : Fin 128, (prod m c ⟨(pt' k).val % 4, by omega⟩ (ix2 r e) + ∑ b : Fin 16,
      k0_pay1 (grid0.coords (pt' k)) (iblk m c 1 (pt' k)) (iblk m c 2 (pt' k)) (ix2 b r) * pooled m c (ix2 b e) : EReal)
      = kernelRow X W2 B2 Wa Wb B1 E ⟨8192 * k.val + r.val, by omega⟩ e := by
    intro e
    have hp : (⟨(pt' k).val % 4, by omega⟩ : Fin 4) = k := Fin.ext hk
    rw [hp, prod_at m c h]
    refine congrArg (_ + ·) ?_
    rw [Finset.sum_eq_single (⟨seg E (8192 * k.val + r.val), Segment.seg_lt E _⟩ : Fin 16)]
    · rw [onehot_at m c h (pt' k) k hk, pooled_at m c h, if_pos rfl, EReal.coe_one, one_mul]
    · intro b _ hb
      rw [onehot_at m c h (pt' k) k hk, if_neg fun q => hb (Fin.ext q.symm), EReal.coe_zero, zero_mul]
    · intro q
      exact absurd (Finset.mem_univ _) q
  simp only [hd, block_part, block_scale, block_shift, eps_word]
  refine Eq.trans ?_ (kernelRow_layer X W2 B2 Wa Wb B1 E (fun e => m (c, Proc.tc.devRef main_arg7) (ix1 e)) (fun e => m (c, Proc.tc.devRef main_arg8) (ix1 e))
    ⟨8192 * k.val + r.val, by omega⟩ e)
  rfl

/-- The kernel's result at an index. -/
theorem result_at (h : HoldsInputs m c X W2 B2 Wa Wb B1 E) (i : Fin 32768) (e : Fin 128) :
    result m c (ix2 i e) = layer X W2 B2 Wa Wb B1 E (fun e => m (c, Proc.tc.devRef main_arg7) (ix1 e)) (fun e => m (c, Proc.tc.devRef main_arg8) (ix1 e)) i e := by
  have hi := outBlock_at m c h ⟨i.val / 8192, by omega⟩ ⟨i.val % 8192, by omega⟩ e
  have e1 : (⟨8192 * (i.val / 8192) + i.val % 8192, by omega⟩ : Fin 32768) = i := Fin.ext (by
    show 8192 * (i.val / 8192) + i.val % 8192 = i.val
    omega)
  rw [e1] at hi
  refine Eq.trans ?_ hi
  unfold result
  refine congrArg _ (at_ix2 ?_ ?_) <;> rfl

end Cert.KernelIdeal.Body
-- ==== Proof.Inputs.lean ====
/- The precondition read as numbers: arrays of reals, and offsets that increase. -/
module

public import proofs.«01_k».proof.Defs
public import proofs.«01_k».proof.Proof.Values

@[expose] public section

set_option maxRecDepth 8192

noncomputable section

namespace Cert.Inputs

open Idealize.ShloMosaic
open Cert.Segment (Ends)
open Cert.Model (Reads)
open Cert.Pre_finite_and_increasing

/-- The side conditions of the precondition's operations. -/
theorem facts : Cert.Pre_finite_and_increasing.Facts where
  bcast_S_S32768x128 := by decide
  bcast_S_S128x128 := by decide
  bcast_S_S128 := by decide
  slices_S16_S1_0 := by decide
  bcast_S_S1 := by decide
  slices_S16_S15_1 := by decide
  slices_S16_S15_0 := by decide
  slices_S16_S1_15 := by decide

/-- An extended real whose absolute value is below infinity is a real. -/
theorem real_of_abs {a : EReal} (h : BitVec.ofBool (decide (FloatOps.absf (F := Ideal) (φ := .f32) a < Ideal.ofBits .f32 0x7F800000#32)) = 1#1) : a = (a.toReal : EReal) := by
  have ht : Ideal.ofBits .f32 0x7F800000#32 = (⊤ : EReal) := by simp [Ideal.ofBits, Ideal.ieee]
  have hl : max a (-a) < (⊤ : EReal) := by
    by_contra hn
    rw [ht] at h
    have hd : decide (FloatOps.absf (F := Ideal) (φ := .f32) a < (⊤ : EReal)) = false := decide_eq_false hn
    rw [hd] at h
    exact absurd h (by decide)
  refine (EReal.coe_toReal ?_ ?_).symm
  · rintro rfl; simp at hl
  · rintro rfl; simp at hl

/-- The number an end offset holds, the first start being zero. -/
def ends (o : IVec S16 32) (n : ℕ) : ℕ := if h : 0 < n ∧ n ≤ 16 then (o (ix1 ⟨n - 1, by omega⟩)).toNat else 0

variable [Cert.Pre_finite_and_increasing.Facts]

variable (p : FVec Ideal S32768x3 .f32) (x : FVec Ideal S32768x128 .f32) (o : IVec S16 32) (w2 : FVec Ideal S128x128 .f32) (b2 : FVec Ideal S128 .f32)
    (w1 : FVec Ideal S256x128 .f32) (b1 g s : FVec Ideal S128 .f32)

/-- The precondition of the nine arrays: each of its tests is one everywhere. -/
abbrev Holds (p : FVec Ideal S32768x3 .f32) (x : FVec Ideal S32768x128 .f32) (o : IVec S16 32) (w2 : FVec Ideal S128x128 .f32) (b2 : FVec Ideal S128 .f32)
    (w1 : FVec Ideal S256x128 .f32) (b1 g s : FVec Ideal S128 .f32) : Prop :=
  (fn (F := Ideal) p x o w2 b2 w1 b1 g s).1 = (fun _ => 1#1) ∧ (fn (F := Ideal) p x o w2 b2 w1 b1 g s).2.1 = (fun _ => 1#1)
  ∧ (fn (F := Ideal) p x o w2 b2 w1 b1 g s).2.2.1 = (fun _ => 1#1) ∧ (fn (F := Ideal) p x o w2 b2 w1 b1 g s).2.2.2.1 = (fun _ => 1#1)
  ∧ (fn (F := Ideal) p x o w2 b2 w1 b1 g s).2.2.2.2.1 = (fun _ => 1#1) ∧ (fn (F := Ideal) p x o w2 b2 w1 b1 g s).2.2.2.2.2 = (fun _ => 1#1)

/-- The offsets hold increasing numbers up to 32768. -/
theorem ends_of (h0 : IntOp.cmpi CmpIPredicate.sge (o (ix1 0)) 1#32 = 1#1)
    (hs : ∀ b : Fin 15, IntOp.cmpi CmpIPredicate.sgt (o (ix1 ⟨1 + b.val, by omega⟩)) (o (ix1 ⟨b.val, by omega⟩)) = 1#1)
    (hl : IntOp.cmpi CmpIPredicate.eq (o (ix1 15)) 32768#32 = 1#1) : Ends o (ends o) := by
  have bool : ∀ {q : Prop} [Decidable q], BitVec.ofBool (decide q) = 1#1 → q := by
    intro q _ h
    by_contra hn
    rw [decide_eq_false hn] at h
    exact absurd h (by decide)
  have g0 : (1 : ℤ) ≤ (o (ix1 0)).toInt := bool h0
  have gs : ∀ b : Fin 15, (o (ix1 ⟨b.val, by omega⟩)).toInt < (o (ix1 ⟨1 + b.val, by omega⟩)).toInt := fun b => bool (hs b)
  have pos : ∀ n (hn : n < 16), (1 : ℤ) ≤ (o (ix1 ⟨n, hn⟩)).toInt := by
    intro n
    induction n with
    | zero => intro _; exact g0
    | succ n ih =>
      intro hn
      have h1 := ih (by omega)
      have h2 := gs ⟨n, by omega⟩
      have e : (⟨1 + n, by omega⟩ : Fin 16) = ⟨n + 1, hn⟩ := Fin.ext (Nat.add_comm 1 n)
      rw [e] at h2
      exact h1.trans h2.le
  have nat : ∀ n (hn : n < 16), (o (ix1 ⟨n, hn⟩)).toInt = ((o (ix1 ⟨n, hn⟩)).toNat : ℤ) := by
    intro n hn
    have h1 := pos n hn
    have h2 := (o (ix1 ⟨n, hn⟩)).isLt
    rw [BitVec.toInt_eq_toNat_cond] at h1 ⊢
    split at h1 <;> omega
  refine ⟨rfl, fun b => ?_, fun b hb => ?_, ?_⟩
  · unfold ends
    rw [dif_pos (by omega), BitVec.ofNat_toNat, BitVec.setWidth_eq]
    rfl
  · unfold ends
    rw [dif_pos (show 0 < b + 1 ∧ b + 1 ≤ 16 by omega)]
    have h1 := pos b hb
    have h2 := nat b hb
    split
    · next hb' =>
      have h3 := gs ⟨b - 1, by omega⟩
      have e : (⟨1 + (b - 1), by omega⟩ : Fin 16) = ⟨b, hb⟩ := Fin.ext (by show 1 + (b - 1) = b; omega)
      rw [e] at h3
      have h4 := nat (b - 1) (by omega)
      have h5 : (o (ix1 ⟨b - 1, by omega⟩)).toInt < (o (ix1 ⟨b, hb⟩)).toInt := h3
      rw [h4, h2] at h5
      exact_mod_cast h5
    · show 0 < (o (ix1 ⟨b, hb⟩)).toNat
      omega
  · have hw : o (ix1 15) = 32768#32 := by
      have hb : BitVec.ofBool (o (ix1 15) == 32768#32) = 1#1 := hl
      by_contra hn
      rw [beq_eq_false_iff_ne.2 hn] at hb
      exact absurd hb (by decide)
    show (o (ix1 15)).toNat = 32768
    rw [hw]
    rfl

/-- Under the precondition the rows, `W2` and `b2` are reals and the offsets increase. -/
theorem reads_of (h : @Holds facts p x o w2 b2 w1 b1 g s) :
    Reads x o w2 b2 w1 b1 (fun i k => (x (ix2 i k)).toReal) (fun k e => (w2 (ix2 k e)).toReal) (fun e => (b2 (ix1 e)).toReal)
      (fun k e => w1 (ix2 ⟨k.val, by omega⟩ e)) (fun k e => w1 (ix2 ⟨128 + k.val, by omega⟩ e)) (fun e => b1 (ix1 e)) (ends o) := by
  obtain ⟨hx, hw2, hb2, h0, hs, hl⟩ := h
  have px : ∀ i k, x (ix2 i k) = ((x (ix2 i k)).toReal : EReal) := by
    intro i k
    refine real_of_abs (Eq.trans ?_ (congrFun hx (ix2 i k)))
    pointwise [fn]
  have pw2 : ∀ i k, w2 (ix2 i k) = ((w2 (ix2 i k)).toReal : EReal) := by
    intro i k
    refine real_of_abs (Eq.trans ?_ (congrFun hw2 (ix2 i k)))
    pointwise [fn]
  have pb2 : ∀ i, b2 (ix1 i) = ((b2 (ix1 i)).toReal : EReal) := by
    intro i
    refine real_of_abs (Eq.trans ?_ (congrFun hb2 (ix1 i)))
    pointwise [fn]
  refine ⟨px, ends_of o ?_ (fun b => ?_) ?_, pw2, pb2, fun _ _ => rfl, fun _ _ => rfl, fun _ => rfl⟩
  · refine Eq.trans ?_ (congrFun h0 (ix1 0))
    pointwise [fn]
  · refine Eq.trans ?_ (congrFun hs (ix1 b))
    pointwise [fn]
  · refine Eq.trans ?_ (congrFun hl (ix1 0))
    pointwise [fn]

end Cert.Inputs
-- ==== Proof.lean ====
/- The certificate of the transition-up kernel: the claims of `proof/Defs.lean`, each from its own module. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Data
public import proofs.«01_k».proof.Proof.WordData
public import proofs.«01_k».proof.Proof.Values
public import proofs.«01_k».proof.Proof.Inputs
public import Idealize.ShloMosaic.Adequacy
public import Idealize.ShloMosaic.Init

@[expose] public section

noncomputable section

namespace Cert.Proof

open Idealize.ShloMosaic Idealize.SL.Sem Cert.Kernel

/-- The kernel, at machine words: it terminates, leaves its arguments unchanged and every counter at zero. -/
theorem frame_kernel : Cert.quiescent_Kernel (hKernel := Cert.Kernel.Gen.facts) := fun m ρ _ => Cert.Kernel.Body.run_frame m ρ

/-- The same of the kernel over extended reals. -/
theorem frame_ideal : Cert.quiescent_KernelIdeal (hKernelIdeal := Cert.KernelIdeal.Gen.facts) := fun m ρ _ =>
  Cert.KernelIdeal.Body.run_frame m ρ

/-- The same of the reference, which has no counter. -/
theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel's frame over extended reals under the precondition, which it does not need. -/
theorem frame_ideal_pre : Cert.quiescent_KernelIdeal_pre_finite_and_increasing (hKernelIdeal := Cert.KernelIdeal.Gen.facts)
    (hPre_finite_and_increasing := Cert.Inputs.facts) := fun m ρ _ => Cert.KernelIdeal.Body.run_frame m ρ

/-- The reference's frame under the precondition, which it does not need. -/
theorem frame_reference_pre : Cert.quiescent_ReferenceIdeal_pre_finite_and_increasing (hReferenceIdeal := Cert.ReferenceIdeal.Gen.facts)
    (hPre_finite_and_increasing := Cert.Inputs.facts) := fun m ρ _ => frame_reference m ρ trivial

/-- The kernel and the reference leave the same array: at each index both are the layer. -/
theorem algebraic : Cert.algebraic_KernelIdeal_ReferenceIdeal_pre_finite_and_increasing (hKernelIdeal := Cert.KernelIdeal.Gen.facts)
    (hReferenceIdeal := Cert.ReferenceIdeal.Gen.facts) (hPre_finite_and_increasing := Cert.Inputs.facts) := by
  intro m g m' g' hpre hargs
  refine ⟨fun c => Cert.KernelIdeal.Body.result m c, ?_, ?_⟩
  · exact (θ_run Cert.KernelIdeal.defs _ _).mono (fun r h c => ⟨h.1 c, h.2 c⟩)
      (θ_run_and (Cert.KernelIdeal.Body.run_value m g) (Cert.KernelIdeal.Body.run_args m g))
  · refine (θ_run Cert.ReferenceIdeal.defs _ _).mono (fun r h c => ⟨(h c).1.trans ?_, (h c).2⟩) (Cert.ReferenceIdeal.Value.run (F := Ideal) m' g')
    obtain ⟨-, a1, a2, a3, a4, a5, a6, a7, a8⟩ := hargs c
    obtain ⟨X, W2, B2, Wa, Wb, B1, E, hk⟩ : ∃ X W2 B2 Wa Wb B1 E, Cert.KernelIdeal.Body.HoldsInputs m c X W2 B2 Wa Wb B1 E :=
      ⟨_, _, _, _, _, _, _, @Cert.Inputs.reads_of Cert.Inputs.facts _ _ _ _ _ _ _ _ _ (hpre c)⟩
    have hr : Cert.Model.RefReads (StableHlo.launchContents m' c) X W2 B2 Wa Wb B1 E := by
      have hk' : Cert.Model.Reads (m ((c.tc : Thread Cert.KernelIdeal.nD Cert.KernelIdeal.τ).loc Cert.KernelIdeal.main_arg1)) (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) (m ((c.tc : Thread Cert.KernelIdeal.nD Cert.KernelIdeal.τ).loc Cert.KernelIdeal.main_arg6)) X W2 B2 Wa Wb B1 E := hk
      rw [← a1, ← a2, ← a3, ← a4, ← a5, ← a6] at hk'
      exact hk'
    funext i
    have hi : i = ix2 (i 0) (i 1) := Cert.KernelIdeal.Body.at_ix2 rfl rfl
    rw [hi]
    refine (Cert.Model.reference_at _ hr (i 0) (i 1)).trans ?_
    refine Eq.trans ?_ (Cert.KernelIdeal.Body.result_at m c hk (i 0) (i 1)).symm
    show Cert.Model.layer X W2 B2 Wa Wb B1 E (fun e => m' ((c.tc : Thread Cert.ReferenceIdeal.nD Cert.ReferenceIdeal.τ).loc Cert.ReferenceIdeal.main_arg7) (ix1 e))
      (fun e => m' ((c.tc : Thread Cert.ReferenceIdeal.nD Cert.ReferenceIdeal.τ).loc Cert.ReferenceIdeal.main_arg8) (ix1 e)) (i 0) (i 1) = _
    rw [a7, a8]

/-- Everything the certificate claims. -/
theorem claim : Cert.Claim := ⟨Cert.Kernel.Gen.facts, Cert.KernelIdeal.Gen.facts, Cert.ReferenceIdeal.Gen.facts, Cert.Inputs.facts,
  frame_kernel, frame_ideal, frame_ideal_pre, frame_reference, frame_reference_pre, trivial, algebraic⟩

end Cert.Proof

end
